-- ==== Defs.lean ====
def Pre_Kernel [hPre_exchanges_Kernel : Cert.Pre_exchanges_Kernel.Facts] (m : (ℓ : Loc Cert.Kernel.nD Cert.Kernel.τ Cert.Kernel.sig) → Buf (Elt Bits) ℓ) : Prop :=
  ∀ c : Dev Cert.Kernel.nD,
    (Cert.Pre_exchanges_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_keeps_Kernel [hPre_keeps_Kernel : Cert.Pre_keeps_Kernel.Facts] (m : (ℓ : Loc Cert.Kernel.nD Cert.Kernel.τ Cert.Kernel.sig) → Buf (Elt Bits) ℓ) : Prop :=
  ∀ c : Dev Cert.Kernel.nD,
    (Cert.Pre_keeps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_exchanges_Kernel : Cert.Pre_exchanges_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_exchanges_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_keeps_Kernel [hPre_keeps_Kernel : Cert.Pre_keeps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_keeps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_exchanges_ReferenceIdeal [hPre_exchanges_ReferenceIdeal : Cert.Pre_exchanges_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exchanges_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_keeps_ReferenceIdeal [hPre_keeps_ReferenceIdeal : Cert.Pre_keeps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_keeps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_exchanges_Kernel : Cert.Pre_exchanges_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_keeps_Kernel [hKernel : Cert.Kernel.Facts] [hPre_keeps_Kernel : Cert.Pre_keeps_Kernel.Facts] : Prop :=
  ∀ (m : (ℓ : Loc Cert.Kernel.nD Cert.Kernel.τ Cert.Kernel.sig) → Buf (Elt Bits) ℓ) (g : Dev Cert.Kernel.nD → PrngReg), Pre_Kernel_keeps_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_exchanges_Kernel : Cert.Pre_exchanges_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_keeps_Kernel [hKernelIdeal : Cert.KernelIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_keeps_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_exchanges_ReferenceIdeal [hReferenceIdeal : Cert.ReferenceIdeal.Facts] [hPre_exchanges_ReferenceIdeal : Cert.Pre_exchanges_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_exchanges_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_keeps_ReferenceIdeal [hReferenceIdeal : Cert.ReferenceIdeal.Facts] [hPre_keeps_ReferenceIdeal : Cert.Pre_keeps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_keeps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exchanges_Kernel : Cert.Pre_exchanges_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_keeps_Kernel [hKernelIdeal : Cert.KernelIdeal.Facts] [hReferenceIdeal : Cert.ReferenceIdeal.Facts] [hPre_keeps_Kernel : Cert.Pre_keeps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_keeps_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_exchanges_Kernel : Cert.Pre_exchanges_Kernel.Facts) (hPre_keeps_Kernel : Cert.Pre_keeps_Kernel.Facts) (hPre_exchanges_ReferenceIdeal : Cert.Pre_exchanges_ReferenceIdeal.Facts) (hPre_keeps_ReferenceIdeal : Cert.Pre_keeps_ReferenceIdeal.Facts),
    quiescent_Kernel (hKernel := hKernel) (hPre_exchanges_Kernel := hPre_exchanges_Kernel)
    ∧ quiescent_Kernel_pre_keeps_Kernel (hKernel := hKernel) (hPre_keeps_Kernel := hPre_keeps_Kernel)
    ∧ quiescent_KernelIdeal (hKernelIdeal := hKernelIdeal) (hPre_exchanges_Kernel := hPre_exchanges_Kernel)
    ∧ quiescent_KernelIdeal_pre_keeps_Kernel (hKernelIdeal := hKernelIdeal) (hPre_keeps_Kernel := hPre_keeps_Kernel)
    ∧ quiescent_ReferenceIdeal (hReferenceIdeal := hReferenceIdeal)
    ∧ quiescent_ReferenceIdeal_pre_exchanges_ReferenceIdeal (hReferenceIdeal := hReferenceIdeal) (hPre_exchanges_ReferenceIdeal := hPre_exchanges_ReferenceIdeal)
    ∧ quiescent_ReferenceIdeal_pre_keeps_ReferenceIdeal (hReferenceIdeal := hReferenceIdeal) (hPre_keeps_ReferenceIdeal := hPre_keeps_ReferenceIdeal)
    ∧ preserves_Kernel_KernelIdeal
    ∧ algebraic_KernelIdeal_ReferenceIdeal (hKernelIdeal := hKernelIdeal) (hReferenceIdeal := hReferenceIdeal) (hPre_exchanges_Kernel := hPre_exchanges_Kernel)
    ∧ algebraic_KernelIdeal_ReferenceIdeal_pre_keeps_Kernel (hKernelIdeal := hKernelIdeal) (hReferenceIdeal := hReferenceIdeal) (hPre_keeps_Kernel := hPre_keeps_Kernel)
-- ==== Pre_exchanges_Kernel.lean ====
abbrev S1x512x512 : Shape := ⟨3, ![1, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S1x512x512 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_exchanges_ReferenceIdeal.lean ====
abbrev S2x512x512 : Shape := ⟨3, ![2, 512, 512]⟩
abbrev S2 : Shape := ⟨1, ![2]⟩
abbrev S_ : Shape := ⟨0, ![]⟩

class Facts : Prop where
  bcast_S_S2 : S_.BroadcastsInDim S2 (![] : Fin 0 → Fin S2.rank)

variable [Facts]

def fn {F : FTy → Type} [FloatOps F] (main_arg0 : FVec F S2x512x512 .f32) (main_arg1 : IVec S2 32) : IVec S2 1 :=
  let main_v0 : IVec S2 32 := iotaInDim S2 32 0
  let main_c : IVec S_ 32 := constantI S_ 32 1#32
  let main_v1 : IVec S2 32 := broadcastInDim S2 ![] bcast_S_S2 main_c
  let main_v2 : IVec S2 32 := subi main_v1 main_v0
  let main_v3 : IVec S2 1 := cmpi .eq main_arg1 main_v2
  main_v3
-- ==== Pre_keeps_Kernel.lean ====
abbrev S1x512x512 : Shape := ⟨3, ![1, 512, 512]⟩
abbrev S2 : Shape := ⟨1, ![2]⟩

class Facts : Prop where

variable [Facts]

def fn {F : FTy → Type} [FloatOps F] (main_arg0 : FVec F S1x512x512 .f32) (main_arg1 : IVec S2 32) : IVec S2 1 :=
  let main_v0 : IVec S2 32 := iotaInDim S2 32 0
  let main_v1 : IVec S2 1 := cmpi .eq main_arg1 main_v0
  main_v1
-- ==== Pre_keeps_ReferenceIdeal.lean ====
abbrev S2x512x512 : Shape := ⟨3, ![2, 512, 512]⟩
abbrev S2 : Shape := ⟨1, ![2]⟩

class Facts : Prop where

variable [Facts]

def fn {F : FTy → Type} [FloatOps F] (main_arg0 : FVec F S2x512x512 .f32) (main_arg1 : IVec S2 32) : IVec S2 1 :=
  let main_v0 : IVec S2 32 := iotaInDim S2 32 0
  let main_v1 : IVec S2 1 := cmpi .eq main_arg1 main_v0
  main_v1
-- ==== Kernel.lean ====
abbrev S1x512x512 : Shape := ⟨3, ![1, 512, 512]⟩
abbrev S2 : Shape := ⟨1, ![2]⟩
abbrev S512x512 : Shape := ⟨2, ![512, 512]⟩
abbrev S_ : Shape := ⟨0, ![]⟩
abbrev S4 : Shape := ⟨1, ![4]⟩
abbrev S1 : Shape := ⟨1, ![1]⟩
abbrev S128x512 : Shape := ⟨2, ![128, 512]⟩
abbrev S1x128x512 : Shape := ⟨3, ![1, 128, 512]⟩

abbrev nBuf : Space → Nat
  | .hbm => 3
  | .vmem => 4
  | .smem => 1
  | _ => 0

abbrev bufTy : (tb : Table) → Fin (tcTables nBuf tb) → BufTy
  | .hbm, ⟨0, _⟩ => ⟨S1x512x512, .f32⟩
  | .hbm, ⟨1, _⟩ => ⟨S2, .i32⟩
  | .hbm, ⟨2, _⟩ => ⟨S1x512x512, .f32⟩
  | .local _ .vmem, ⟨0, _⟩ => ⟨S1x512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .smem, ⟨0, _⟩ => ⟨S2, .i32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg0_0 : Ref sig .tc := ⟨.smem, 0, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_off1 (d0 : Dev nD) : Fin 1 → Nat :=
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v9 : Index := Scalar.indexCast v5
  ![v9.toNat]
def k0_dev1 (d0 : Dev nD) (v10 : BitVec 32) : Nat :=
  let c0_i32_7 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_6 : BitVec 32 := 4#32
  let v14 : BitVec 32 := Scalar.muli v2 c4_i32_6
  let v15 : BitVec 32 := Scalar.addi c0_i32_7 v14
  let c2_i32_8 : BitVec 32 := 2#32
  let v16 : BitVec 32 := Scalar.muli v10 c2_i32_8
  let v17 : BitVec 32 := Scalar.addi v15 v16
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_9 : BitVec 32 := 1#32
  let v18 : BitVec 32 := Scalar.muli v8 c1_i32_9
  let v19 : BitVec 32 := Scalar.addi v17 v18
  v19.toNat

def k0_dev2 (d0 : Dev nD) (v10 : BitVec 32) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v27 : BitVec 32 := Scalar.muli v2 c4_i32_19
  let v28 : BitVec 32 := Scalar.addi c0_i32_20 v27
  let c2_i32_21 : BitVec 32 := 2#32
  let v29 : BitVec 32 := Scalar.muli v10 c2_i32_21
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v31 : BitVec 32 := Scalar.muli v8 c1_i32_22
  let v32 : BitVec 32 := Scalar.addi v30 v31
  v32.toNat
def k0_dev3 (d0 : Dev nD) (v10 : BitVec 32) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v44 : BitVec 32 := Scalar.muli v2 c4_i32_32
  let v45 : BitVec 32 := Scalar.addi c0_i32_33 v44
  let c2_i32_34 : BitVec 32 := 2#32
  let v46 : BitVec 32 := Scalar.muli v10 c2_i32_34
  let v47 : BitVec 32 := Scalar.addi v45 v46
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_35 : BitVec 32 := 1#32
  let v48 : BitVec 32 := Scalar.muli v8 c1_i32_35
  let v49 : BitVec 32 := Scalar.addi v47 v48
  v49.toNat
def k0_dev4 (d0 : Dev nD) (v10 : BitVec 32) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v61 : BitVec 32 := Scalar.muli v2 c4_i32_44
  let v62 : BitVec 32 := Scalar.addi c0_i32_45 v61
  let c2_i32_46 : BitVec 32 := 2#32
  let v63 : BitVec 32 := Scalar.muli v10 c2_i32_46
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v65 : BitVec 32 := Scalar.muli v8 c1_i32_47
  let v66 : BitVec 32 := Scalar.addi v64 v65
  v66.toNat
def k0_dev5 (d0 : Dev nD) (v10 : BitVec 32) : Nat :=
  let c0_i32_56 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_55 : BitVec 32 := 4#32
  let v78 : BitVec 32 := Scalar.muli v2 c4_i32_55
  let v79 : BitVec 32 := Scalar.addi c0_i32_56 v78
  let c2_i32_57 : BitVec 32 := 2#32
  let v80 : BitVec 32 := Scalar.muli v10 c2_i32_57
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v82 : BitVec 32 := Scalar.muli v8 c1_i32_58
  let v83 : BitVec 32 := Scalar.addi v81 v82
  v83.toNat

def k0_chk1 (d0 : Dev nD) (v10 : BitVec 32) : Prop :=
  ((k0_dev1 d0 v10) < nD) ∧
  ((k0_dev2 d0 v10) < nD) ∧
  ((k0_dev3 d0 v10) < nD) ∧
  ((k0_dev4 d0 v10) < nD) ∧
  ((k0_dev5 d0 v10) < nD)
theorem k0_dev1_lt : ∀ (d0 : Dev nD) (v10 : BitVec 32) (k0_hw1 : k0_chk1 d0 v10), (k0_dev1 d0 v10) < nD := fun d0 v10 k0_hw1 => k0_hw1.1
theorem k0_dev2_lt : ∀ (d0 : Dev nD) (v10 : BitVec 32) (k0_hw1 : k0_chk1 d0 v10), (k0_dev2 d0 v10) < nD := fun d0 v10 k0_hw1 => k0_hw1.2.1
theorem k0_dev3_lt : ∀ (d0 : Dev nD) (v10 : BitVec 32) (k0_hw1 : k0_chk1 d0 v10), (k0_dev3 d0 v10) < nD := fun d0 v10 k0_hw1 => k0_hw1.2.2.1
theorem k0_dev4_lt : ∀ (d0 : Dev nD) (v10 : BitVec 32) (k0_hw1 : k0_chk1 d0 v10), (k0_dev4 d0 v10) < nD := fun d0 v10 k0_hw1 => k0_hw1.2.2.2.1
theorem k0_dev5_lt : ∀ (d0 : Dev nD) (v10 : BitVec 32) (k0_hw1 : k0_chk1 d0 v10), (k0_dev5 d0 v10) < nD := fun d0 v10 k0_hw1 => k0_hw1.2.2.2.2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 14
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.Chunks.lean ====
/-
# The exchange's buffers, their four row chunks, and the contents they hold

A device copies its block of `x` into a local buffer, narrows it to bf16 in four chunks of 128 rows, sends every chunk
to its partner and widens what arrives. This file names the buffers and the chunks and says what each buffer holds,
with no reference to semaphores or to who owns what.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Tactic
public import Idealize.ShloMosaic.Lib.Ring

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

/-- How the devices are paired: everybody's partner's partner is itself. -/
structure Pairing where
  pal : Dev nD → Dev nD
  back : ∀ c, pal (pal c) = c

/-- The pairing as a bijection of the devices. -/
def Pairing.equiv (P : Pairing) : Dev nD ≃ Dev nD := ⟨P.pal, P.pal, P.back, P.back⟩

/-! ## Buffers and chunks -/

abbrev piM : Memref sig .tc .smem S2 .i32 := Memref.whole cc0_stg0_0
abbrev xM : Memref sig .tc .hbm S1x512x512 .f32 := Memref.whole main_arg0
abbrev outM : Memref sig .tc .vmem S1x512x512 .f32 := Memref.whole cc0_stg1_0
abbrev stM : Memref sig .tc .vmem S512x512 .f32 := Memref.whole cc0_scratch0
abbrev sdM : Memref sig .tc .vmem S512x512 .bf16 := Memref.whole cc0_scratch1
abbrev rvM : Memref sig .tc .vmem S512x512 .bf16 := Memref.whole cc0_scratch2

/-- The block of `x` seen as a matrix: the source of the copy into the local buffer. -/
abbrev srcM : Memref sig .tc .hbm S512x512 .f32 :=
  (xM.slice (Rect.unit (s := S1x512x512) ![0, 0, 0] S1x512x512.size inb_S1x512x512_S1x512x512_0_0_0) (fun _ => rfl)).squeeze
    S512x512 squeezes_S1x512x512_S512x512

theorem row_inb (k : Fin 4) : ∀ a, (![128 * k.val, 0] : Fin 2 → ℕ) a + S128x512.size a ≤ S512x512.size a := by
  revert k; decide
theorem out_inb (k : Fin 4) : ∀ a, (![0, 128 * k.val, 0] : Fin 3 → ℕ) a + S1x128x512.size a ≤ S1x512x512.size a := by
  revert k; decide

/-- Rows `128 k … 128 k + 127` of a matrix, and the same rows of a device's block of the result. -/
abbrev rowR (k : Fin 4) : Rect S512x512 := Rect.unit (s := S512x512) ![128 * k.val, 0] S128x512.size (row_inb k)
abbrev outR (k : Fin 4) : Rect S1x512x512 := Rect.unit (s := S1x512x512) ![0, 128 * k.val, 0] S1x128x512.size (out_inb k)

/-- Chunk `k` of the buffer sent from and of the buffer received into. -/
abbrev sdK (k : Fin 4) : Memref sig .tc .vmem S128x512 .bf16 := sdM.slice (rowR k) (fun _ => rfl)
abbrev rvK (k : Fin 4) : Memref sig .tc .vmem S128x512 .bf16 := rvM.slice (rowR k) (fun _ => rfl)

theorem rows_disjoint {k k' : Fin 4} (h : k ≠ k') : Disjoint (rowR k).set (rowR k').set := by
  refine Rect.unit_disjoint (s := S512x512) 0 ?_
  show 128 * k.val + 128 ≤ 128 * k'.val ∨ 128 * k'.val + 128 ≤ 128 * k.val
  have : k.val ≠ k'.val := fun e => h (Fin.ext e)
  omega

theorem mem_rows (i : S512x512.Idx) (k : Fin 4) : i ∈ (rowR k).set ↔ (i 0).val / 128 = k.val := by
  refine (LoadRect.mem_set (r := (rowR k).toLoadRect)).trans ?_
  constructor
  · intro h
    obtain ⟨j, hj, e⟩ := h 0
    have hj' : j < 128 := hj
    have e' : (i 0).val = 128 * k.val + 1 * j := e
    omega
  · intro h a
    fin_cases a
    · refine ⟨(i 0).val - 128 * k.val, ?_, ?_⟩
      · show (i 0).val - 128 * k.val < 128
        omega
      · show (i 0).val = 128 * k.val + 1 * ((i 0).val - 128 * k.val)
        omega
    · exact ⟨(i 1).val, (i 1).isLt, (show (i 1).val = 0 + 1 * (i 1).val by omega)⟩

theorem rows_cover : (Finset.univ : Finset (Fin 4)).biUnion (fun k => (rowR k).set) = Finset.univ := by
  ext i
  simp only [Finset.mem_biUnion, Finset.mem_univ, true_and, iff_true]
  have hi : (i 0).val < 512 := (i 0).isLt
  exact ⟨⟨(i 0).val / 128, by omega⟩, (mem_rows i _).mpr rfl⟩

theorem sdK_set (k : Fin 4) : (sdK k).view.set = (rowR k).set := View.set_slice_whole _ _
theorem rvK_set (k : Fin 4) : (rvK k).view.set = (rowR k).set := View.set_slice_whole _ _

theorem src_set : srcM.view.set = Finset.univ := by
  refine (View.set_reshape _ _).trans ?_
  show ((xM.view).slice _).set = _
  rw [View.set_slice_whole]
  ext i
  simp only [Finset.mem_univ, iff_true]
  rw [show ∀ (r : Rect S1x512x512), r.set = r.toLoadRect.set from fun _ => rfl, LoadRect.mem_set]
  intro a
  refine ⟨(i a).val, (i a).isLt, ?_⟩
  fin_cases a <;> exact (Nat.zero_add _).symm.trans (congrArg (0 + ·) (Nat.one_mul _).symm)

/-! ## Contents -/

variable (m : (ℓ : Loc nD τ sig) → Buf (Elt F) ℓ) (ρ : Dev nD → PrngReg) (P : Pairing)

/-- The memory at launch: arbitrary contents, every semaphore counter zero, arbitrary generator registers. -/
def s₀ : MemSt nD τ sig (Elt F) := ⟨m, fun _ => 0, ρ⟩

/-- Device `c`'s block of `x`, as the local copy of it holds it; -/
def stF (c : Dev nD) : (cc0_scratch0 : Ref sig .tc).ty.Contents (Elt F) :=
  srcM.view.read (Elt F) (m ((c : Thread nD τ).loc main_arg0))

/-- narrowed to bf16: what `c` sends; -/
def sdF (c : Dev nD) : (cc0_scratch1 : Ref sig .tc).ty.Contents (Elt F) :=
  truncf .bf16 (stF m c : FVec F S512x512 .f32) bitsLt_bf16_f32

/-- its partner's, which it receives; -/
def rvF (c : Dev nD) : (cc0_scratch2 : Ref sig .tc).ty.Contents (Elt F) := sdF m (P.pal c)

theorem cast_512 : S512x512.ShapeCasts S1x512x512 := by decide

/-- and that widened again: device `c`'s block of the result. -/
def outF (c : Dev nD) : (cc0_stg1_0 : Ref sig .tc).ty.Contents (Elt F) :=
  shapeCast S1x512x512 (extf .f32 (rvF m P c : FVec F S512x512 .bf16) bitsLt_bf16_f32) cast_512

/-- Device `c`'s staged copy of the permutation. -/
def piF (c : Dev nD) : (cc0_stg0_0 : Ref sig .tc).ty.Contents (Elt F) :=
  (win0_0.blk (0 : Fin 1)).view.read (Elt F) ((s₀ m ρ).mem ((c : Thread nD τ).loc main_arg1))

omit [FloatOps F] in
/-- A chunk written with what another buffer's same chunk reads of `f` holds `f` there. -/
theorem land_rows (k : Fin 4) (fd : (cc0_scratch2 : Ref sig .tc).ty.Contents (Elt F)) (f : (cc0_scratch1 : Ref sig .tc).ty.Contents (Elt F)) :
    ∀ i ∈ (rvK k).view.set, (rvK k).view.write (Elt F) fd ((sdK k).view.read (Elt F) f) Finset.univ i = f i := by
  intro i hi
  obtain ⟨j, -, rfl⟩ := Finset.mem_map.mp hi
  rw [View.write_emb_of_mem _ _ (Finset.mem_univ j)]
  rfl

/-- A chunk of the sending buffer stored with the local copy's same rows narrowed holds what is to be sent. -/
theorem fill_rows (k : Fin 4) (c : Dev nD) (fd : (cc0_scratch1 : Ref sig .tc).ty.Contents (Elt F))
    (pay : Vec F S128x512 .f32 → FVec F S128x512 .bf16)
    (hpay : ∀ v, pay v = truncf .bf16 v bitsLt_bf16_f32) :
    ∀ i ∈ (sdK k).view.set, (sdM.access (rowR k)).write (Elt F) fd (pay (stM.view.readAt (Elt F) (rowR k).toLoadRect (stF m c))) Finset.univ i
      = sdF m c i := by
  intro i hi
  obtain ⟨j, -, rfl⟩ := Finset.mem_map.mp hi
  rw [hpay]
  exact (View.write_emb_of_mem (v := sdM.access (rowR k)) _ _ (Finset.mem_univ j)).trans rfl

/-- The result's block is right on its first `n` chunks. -/
def Done (c : Dev nD) (n : ℕ) (f : (cc0_stg1_0 : Ref sig .tc).ty.Contents (Elt F)) : Prop :=
  ∀ i : S1x512x512.Idx, (i 1).val < 128 * n → f i = outF m P c i

theorem done_zero (c : Dev nD) (f) : Done m P c 0 f := fun i h => absurd h (Nat.not_lt_zero _)
theorem done_all (c : Dev nD) (f) (h : Done m P c 4 f) : f = outF m P c := funext fun i => h i (i 1).isLt

/-- Storing chunk `k` of what was received, widened, makes the next chunk right. -/
theorem done_succ (c : Dev nD) (k : Fin 4) (f : (cc0_stg1_0 : Ref sig .tc).ty.Contents (Elt F))
    (pay : Vec F S128x512 .bf16 → FVec F S1x128x512 .f32)
    (hpay : ∀ v, pay v = shapeCast S1x128x512 (extf .f32 v bitsLt_bf16_f32) shapeCasts_S128x512_S1x128x512)
    (h : Done m P c k.val f) :
    Done m P c (k.val + 1) ((outM.access (outR k)).write (Elt F) f (pay (rvM.view.readAt (Elt F) (rowR k).toLoadRect (rvF m P c))) Finset.univ) := by
  intro i hi
  by_cases hk : (i 1).val < 128 * k.val
  · rw [View.write_of_not_mem]
    · exact h i hk
    · intro hm
      obtain ⟨j, -, e⟩ := Finset.mem_map.mp hm
      have e1 : (i 1).val = 128 * k.val + 1 * (j 1).val := by rw [← e]; rfl
      omega
  · have hj : (i 1).val - 128 * k.val < 128 := by omega
    let j : S1x128x512.Idx := fun a => match a with
      | ⟨0, _⟩ => ⟨(i 0).val, (i 0).isLt⟩
      | ⟨1, _⟩ => ⟨(i 1).val - 128 * k.val, hj⟩
      | ⟨2, _⟩ => ⟨(i 2).val, (i 2).isLt⟩
    have e : (outM.access (outR k)).emb j = i := by
      funext a
      apply Fin.ext
      fin_cases a
      · show 0 + 1 * (i 0).val = (i 0).val; omega
      · show 128 * k.val + 1 * ((i 1).val - 128 * k.val) = (i 1).val; omega
      · show 0 + 1 * (i 2).val = (i 2).val; omega
    rw [← e, View.write_emb_of_mem _ _ (Finset.mem_univ j), hpay, e]
    have e2 : (rowR k).emb (fun a : Fin 2 => j a.succ) = fun a : Fin 2 => i a.succ := by
      funext a
      apply Fin.ext
      fin_cases a
      · show 128 * k.val + 1 * ((i 1).val - 128 * k.val) = (i 1).val; omega
      · show 0 + 1 * (i 2).val = (i 2).val; omega
    refine Eq.trans (congrArg _ (shapeCast_addUnit_apply (α := F .f32) ![128, 512] _ _ j)) (Eq.trans ?_ (shapeCast_addUnit_apply (α := F .f32) ![512, 512] _ _ i).symm)
    show FloatOps.extf .f32 bitsLt_bf16_f32 (rvF m P c ((rowR k).emb (fun a : Fin 2 => j a.succ)) : F .bf16) = _
    rw [e2]
    rfl

end Cert.Swap

end
-- ==== Proof.Protocol.lean ====
/-
# The protocol of the exchange

Every device has ten cells, each with one duty in one round:

* the barrier (cell 0), one unit, paid by the partner, who hands over its receiving buffer;
* the local copy (cell 1), paid by the device's own copy of its block of `x`: the copy and the block come back;
* the departures (cells 2 to 5), chunk `k`'s paid when it has been read: the chunk of the sending buffer comes back;
* the arrivals (cells 6 to 9), chunk `k`'s paid by the partner's transfer: the chunk of the receiving buffer comes
  back holding the partner's rows.

A device waits on its barrier and its local copy while it still owes its partner the four arrivals, so the arrivals
are ranked above the barrier and the barrier above everything else.
-/
module

public import proofs.«01_k».proof.Proof.Chunks

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the staging pipeline's rounds and the exchange's, both with one duty to a cell and round. -/
abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## Cells -/

abbrev barS : Sem sig := (SemArray.scalar (sig.barrier 0 rfl) : Sems sig S_).sem
/-- The kernel's nine transfer semaphores: the local copy's, the departures', the arrivals'. -/
def dsem (j : Fin 9) : DmaSem sig := ⟨j.val + 2, by revert j; decide⟩
abbrev copyS : DmaSem sig := dsem 0
abbrev depS (k : Fin 4) : DmaSem sig := dsem ⟨k.val + 1, by omega⟩
abbrev arrS (k : Fin 4) : DmaSem sig := dsem ⟨k.val + 5, by omega⟩

theorem copy_sem : (cc0_scratch3 : DmaSems sig S_).sem = copyS := rfl
theorem dep_sem (k : Fin 4) (off : Fin 1 → ℕ) (inb) (sq) (h : off = ![k.val]) :
    ((cc0_scratch4.slice (Rect.unit (s := S4) off S1.size inb)).squeeze S_ sq).sem = depS k := by
  subst h; revert inb; revert k; decide
theorem arr_sem (k : Fin 4) (off : Fin 1 → ℕ) (inb) (sq) (h : off = ![k.val]) :
    ((cc0_scratch5.slice (Rect.unit (s := S4) off S1.size inb)).squeeze S_ sq).sem = arrS k := by
  subst h; revert inb; revert k; decide

abbrev barCell (c : Dev nD) : GSem nD τ sig := ((c : Thread nD τ), .reg barS)
abbrev copyCell (c : Dev nD) : GSem nD τ sig := ((c : Thread nD τ), .dma copyS)
abbrev depCell (c : Dev nD) (k : Fin 4) : GSem nD τ sig := ((c : Thread nD τ), .dma (depS k))
abbrev arrCell (c : Dev nD) (k : Fin 4) : GSem nD τ sig := ((c : Thread nD τ), .dma (arrS k))

/-- The kernel's own semaphores, as the launch counts them, and all ten with the barrier first. -/
abbrev osem (j : Fin 9) : SemLoc sig := .dma (dsem j)
def csem : Fin 10 → SemLoc sig := Fin.cons (.reg barS) osem
abbrev kcell (ck : Dev nD × Fin 10) : GSem nD τ sig := ((ck.1 : Thread nD τ), csem ck.2)

abbrev depI (k : Fin 4) : Fin 10 := ⟨k.val + 2, by omega⟩
abbrev arrI (k : Fin 4) : Fin 10 := ⟨k.val + 6, by omega⟩

/-- What the local copy and a chunk's transfer credit their cells with. -/
abbrev Nst : ℕ := (stM : Memref sig .tc .vmem S512x512 .f32).view.dmaCredit
abbrev Nck : ℕ := (rvK 0).view.dmaCredit
theorem Nst_pos : 0 < Nst := View.dmaCredit_pos _ (by decide)
theorem Nck_pos : 0 < Nck := View.dmaCredit_pos _ (by decide)

/-! ## Holding the buffers -/

variable (m : (ℓ : Loc nD τ sig) → Buf (Elt F) ℓ) (ρ : Dev nD → PrngReg) (P : Pairing)

def sdPts (c : Dev nD) (k : Fin 4) (f : (cc0_scratch1 : Ref sig .tc).ty.Contents (Elt F)) : sProp 𝕄 :=
  (sdK k).view.loc (c : Thread nD τ) ↦[(sdK k).view.set]{fullShare} f
def rvPts (c : Dev nD) (k : Fin 4) (f : (cc0_scratch2 : Ref sig .tc).ty.Contents (Elt F)) : sProp 𝕄 :=
  (rvK k).view.loc (c : Thread nD τ) ↦[(rvK k).view.set]{fullShare} f
def stPts (c : Dev nD) (f : (cc0_scratch0 : Ref sig .tc).ty.Contents (Elt F)) : sProp 𝕄 :=
  (stM).view.loc (c : Thread nD τ) ↦[(stM).view.set]{fullShare} f
def xPts (c : Dev nD) : sProp 𝕄 :=
  (srcM).view.loc (c : Thread nD τ) ↦[(srcM).view.set]{fullShare} (m ((c : Thread nD τ).loc main_arg0))

omit [FloatOps F] in
theorem stPts_eq (c : Dev nD) (f) : stPts c f = (((c : Thread nD τ).loc cc0_scratch0) ↦{fullShare} f : sProp 𝕄) := by
  unfold stPts; rw [View.set_whole]
omit [FloatOps F] in
theorem xPts_eq (c : Dev nD) :
    xPts m c = (((c : Thread nD τ).loc main_arg0) ↦{fullShare} (m ((c : Thread nD τ).loc main_arg0)) : sProp 𝕄) := by
  unfold xPts; rw [src_set]
omit [FloatOps F] in
/-- A buffer of 512 rows held whole is its four chunks held apart. -/
theorem sd_chunks (c : Dev nD) (f) :
    (((c : Thread nD τ).loc cc0_scratch1) ↦{fullShare} f : sProp 𝕄) = bigSep Finset.univ fun k => sdPts c k f := by
  rw [Ring.pointsTo_blocks (fun k : Fin 4 => (rowR k).set) (fun _ _ h => rows_disjoint h) rows_cover]
  exact bigSep_congr fun k _ => by unfold sdPts; rw [sdK_set]
omit [FloatOps F] in
theorem rv_chunks (c : Dev nD) (f) :
    (((c : Thread nD τ).loc cc0_scratch2) ↦{fullShare} f : sProp 𝕄) = bigSep Finset.univ fun k => rvPts c k f := by
  rw [Ring.pointsTo_blocks (fun k : Fin 4 => (rowR k).set) (fun _ _ h => rows_disjoint h) rows_cover]
  exact bigSep_congr fun k _ => by unfold rvPts; rw [rvK_set]

omit [FloatOps F] in
instance sdPts_storable (c k f) : BI.Storable (upEmb : UEmb _ 𝕄) (sdPts (F := F) c k f) := by unfold sdPts; infer_instance
omit [FloatOps F] in
instance rvPts_storable (c k f) : BI.Storable (upEmb : UEmb _ 𝕄) (rvPts (F := F) c k f) := by unfold rvPts; infer_instance
omit [FloatOps F] in
instance stPts_storable (c f) : BI.Storable (upEmb : UEmb _ 𝕄) (stPts (F := F) c f) := by unfold stPts; infer_instance
omit [FloatOps F] in
instance xPts_storable (c) : BI.Storable (upEmb : UEmb _ 𝕄) (xPts (F := F) m c) := by unfold xPts; infer_instance

/-! ## The schedule -/

/-- What each cell hands its owner. -/
def barPay (c : Dev nD) : sProp 𝕄 := iprop(∃ f, bigSep Finset.univ fun k => rvPts (P.pal c) k f)
def copyPay (c : Dev nD) : sProp 𝕄 := iprop(stPts c (stF m c) ∗ xPts m c)
def depPay (c : Dev nD) (k : Fin 4) : sProp 𝕄 := sdPts c k (sdF m c)
def arrPay (c : Dev nD) (k : Fin 4) : sProp 𝕄 := rvPts c k (rvF m P c)

/-- The payload of a device's `n`-th own semaphore. -/
def dmaPay (c : Dev nD) (n : ℕ) : sProp 𝕄 :=
  if n = 0 then copyPay m c
  else if h : n - 1 < 4 then depPay m c ⟨n - 1, h⟩
  else if h : n - 5 < 4 then arrPay m P c ⟨n - 5, h⟩
  else iprop(emp)

instance dmaPay_storable (c n) : BI.Storable (upEmb : UEmb _ 𝕄) (dmaPay (F := F) m P c n) := by
  unfold dmaPay copyPay depPay arrPay
  (repeat' split) <;> infer_instance
omit [FloatOps F] in
instance barPay_storable (c) : BI.Storable (upEmb : UEmb _ 𝕄) (barPay (F := F) P c) := by
  unfold barPay; infer_instance

/-- One duty to every cell, in round 0. -/
def swapRd : Rounds.Schedule (GSem nD τ sig) Unit 𝕄 where
  duties _ r := if r = 0 then {()} else ∅
  unitless _ := False
  amount g _ _ := match g.2 with
    | .reg _ => 1
    | .dma q => if q.val - 2 = 0 then Nst else Nck
  payload g _ _ := match g.2 with
    | .reg _ => barPay P g.1.1
    | .dma q => dmaPay m P g.1.1 (q.val - 2)
  amount_pos g _ _ _ := by
    rcases g with ⟨t, _ | q⟩
    · exact Nat.one_pos
    · dsimp only
      split
      · exact Nst_pos
      · exact Nck_pos

instance swapRd_storable (g : GSem nD τ sig) (r : ℕ) (d : Unit) :
    BI.Storable (upEmb : UEmb _ 𝕄) ((swapRd (F := F) m P).payload g r d) := by
  rcases g with ⟨t, _ | q⟩
  · exact barPay_storable P _
  · exact dmaPay_storable m P _ _

section Tables
variable (c : Dev nD) (k : Fin 4)

theorem duty (g : GSem nD τ sig) : () ∈ (swapRd (F := F) m P).duties g 0 := by
  show () ∈ (if (0 : ℕ) = 0 then {()} else ∅ : Finset Unit)
  rw [if_pos rfl]; exact Finset.mem_singleton_self _
theorem duties_zero (g : GSem nD τ sig) : (swapRd (F := F) m P).duties g 0 = {()} := by
  show (if (0 : ℕ) = 0 then {()} else ∅ : Finset Unit) = {()}
  exact if_pos rfl
theorem duties_later (g : GSem nD τ sig) : ∀ r, 0 + 1 ≤ r → (swapRd (F := F) m P).duties g r = ∅ :=
  fun r hr => if_neg (by omega)

theorem amount_bar : (swapRd (F := F) m P).amount (barCell c) 0 () = 1 := rfl
theorem amount_copy : (swapRd (F := F) m P).amount (copyCell c) 0 () = Nst := by
  show (if copyS.val - 2 = 0 then Nst else Nck) = Nst
  exact if_pos rfl
theorem amount_dep : (swapRd (F := F) m P).amount (depCell c k) 0 () = Nck := by
  show (if k.val + 1 + 2 - 2 = 0 then Nst else Nck) = Nck
  exact if_neg (by omega)
theorem amount_arr : (swapRd (F := F) m P).amount (arrCell c k) 0 () = Nck := by
  show (if k.val + 5 + 2 - 2 = 0 then Nst else Nck) = Nck
  exact if_neg (by omega)

theorem expect_eq (g : GSem nD τ sig) : (swapRd (F := F) m P).expect g 0 = (swapRd (F := F) m P).amount g 0 () := by
  unfold Schedule.expect Schedule.amountOf; rw [duties_zero, Finset.sum_singleton]

theorem payload_bar : (swapRd (F := F) m P).payload (barCell c) 0 () = barPay P c := rfl
theorem payload_copy : (swapRd (F := F) m P).payload (copyCell c) 0 () = copyPay m c := by
  show dmaPay m P c 0 = _
  unfold dmaPay
  exact if_pos rfl
theorem payload_dep : (swapRd (F := F) m P).payload (depCell c k) 0 () = depPay m c k := by
  show dmaPay m P c (k.val + 1 + 2 - 2) = _
  unfold dmaPay
  rw [if_neg (by omega), dif_pos (by omega)]
  exact congrArg _ (Fin.ext (by show k.val + 1 + 2 - 2 - 1 = k.val; omega))
theorem payload_arr : (swapRd (F := F) m P).payload (arrCell c k) 0 () = arrPay m P c k := by
  show dmaPay m P c (k.val + 5 + 2 - 2) = _
  unfold dmaPay
  rw [if_neg (by omega), dif_neg (by omega), dif_pos (by omega)]
  exact congrArg _ (Fin.ext (by show k.val + 5 + 2 - 2 - 5 = k.val; omega))

/-- The rest of an untouched round is its one payload. -/
theorem rest_eq (g : GSem nD τ sig) :
    bigSep ((swapRd (F := F) m P).duties g 0 \ ∅) (fun d => (swapRd (F := F) m P).payload g 0 d) = (swapRd (F := F) m P).payload g 0 () := by
  rw [Finset.sdiff_empty, duties_zero, bigSep_singleton]

end Tables

/-! ## What a device owes, and the ranks of the cells -/

/-- The arrivals of chunks `n` and up at the partner. -/
def owedArr (c : Dev nD) (n : ℕ) : CellTallies nD τ sig Unit :=
  ∑ k ∈ Finset.univ.filter (fun k : Fin 4 => n ≤ k.val), tallyAt (arrCell (P.pal c) k) () Nck
/-- At launch: those of all four chunks, and the partner's barrier. -/
def O₀ (c : Dev nD) : CellTallies nD τ sig Unit := owedArr P c 0 + tallyAt (barCell (P.pal c)) () 1

theorem owedArr_step (c : Dev nD) (k : Fin 4) :
    owedArr P c k.val = owedArr P c (k.val + 1) + tallyAt (arrCell (P.pal c) k) () Nck := by
  unfold owedArr
  rw [show Finset.univ.filter (fun j : Fin 4 => k.val ≤ j.val) = insert k (Finset.univ.filter (fun j : Fin 4 => k.val + 1 ≤ j.val)) by
    revert k; decide, Finset.sum_insert (by simp), add_comm]
theorem owedArr_end (c : Dev nD) : owedArr P c 4 = 0 := by
  unfold owedArr
  rw [show Finset.univ.filter (fun j : Fin 4 => 4 ≤ j.val) = ∅ by decide, Finset.sum_empty]

theorem owedArr_apply (c : Dev nD) (n : ℕ) (g : GSem nD τ sig) (u : Unit) :
    owedArr P c n g u = ∑ k ∈ Finset.univ.filter (fun k : Fin 4 => n ≤ k.val), (if g = arrCell (P.pal c) k ∧ u = () then Nck else 0) := by
  unfold owedArr
  rw [Finset.sum_apply, Finsupp.finset_sum_apply]
  exact Finset.sum_congr rfl fun k _ => tallyAt_apply _ _ _ _ _

theorem owedArr_pos {c : Dev nD} {n : ℕ} {g : GSem nD τ sig} {u : Unit} (h : 0 < owedArr P c n g u) :
    ∃ k, g = arrCell (P.pal c) k := by
  rw [owedArr_apply] at h
  by_contra hn
  rw [Finset.sum_eq_zero fun k _ => if_neg fun h' => hn ⟨k, h'.1⟩] at h
  exact Nat.lt_irrefl 0 h

theorem O₀_pos {c : Dev nD} {g : GSem nD τ sig} {u : Unit} (h : 0 < O₀ P c g u) :
    (∃ k, g = arrCell (P.pal c) k) ∨ g = barCell (P.pal c) := by
  unfold O₀ at h
  rw [Pi.add_apply, Finsupp.add_apply, tallyAt_apply] at h
  by_cases hb : g = barCell (P.pal c) ∧ u = ()
  · exact .inr hb.1
  · rw [if_neg hb, Nat.add_zero] at h
    exact .inl (owedArr_pos P h)

def L (g : GSem nD τ sig) : Finset Unit := if g.1.2 = .tc then {()} else ∅
/-- Staging, copy and departures 0; the barrier 1; the arrivals 2. -/
def lv (g : GSem nD τ sig) (_ : Unit) : ℕ := match g.2 with
  | .reg _ => 1
  | .dma q => if 7 ≤ q.val then 2 else 0

theorem L_of_ne (g : GSem nD τ sig) (h : g.1.2 ≠ .tc) : L g = ∅ := if_neg h
theorem L_tc (c : Dev nD) (sm : SemLoc sig) : () ∈ L ((c : Thread nD τ), sm) := by
  unfold L; rw [if_pos rfl]; exact Finset.mem_singleton_self _
theorem lv_arr (c : Dev nD) (k : Fin 4) : lv (arrCell c k) () = 2 := by
  show (if 7 ≤ k.val + 5 + 2 then 2 else 0) = 2
  exact if_pos (by omega)

omit [FloatOps F] in
/-- A device owing its partner's arrivals may wait on any cell ranked below them. -/
theorem mayWait_low (c : Dev nD) (sm : SemLoc sig) (h : lv ((c : Thread nD τ), sm) () ≤ 1) (n : ℕ) :
    (levAts L lv : sProp 𝕄) ⊢ MayWait (c : Thread nD τ) sm () (owedArr P c n) :=
  MayOwe.of_cut (L := L) (lev := lv) 1 (fun p hp => by rw [Finset.mem_singleton.mp hp]; exact L_tc _ _)
    (fun g u hg => by obtain ⟨k, rfl⟩ := owedArr_pos P hg; exact L_tc _ _)
    (fun p hp => by rw [Finset.mem_singleton.mp hp]; exact h)
    (fun g u hg => by obtain ⟨k, rfl⟩ := owedArr_pos P hg; rw [lv_arr]; decide)

omit [FloatOps F] in
/-- A device may wait on its staging at either end of the run. -/
theorem mayWait_stage (c : Dev nD) (q : DmaSem sig) (hq : q.val < 7) (O : CellTallies nD τ sig Unit) (hO : O = O₀ P c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp]; exact L_tc _ _)
      (fun g u hg => by rcases O₀_pos P hg with ⟨k, rfl⟩ | rfl <;> exact L_tc _ _)
      (fun p hp => by rw [Finset.mem_singleton.mp hp]; exact le_of_eq (if_neg (by show ¬ 7 ≤ q.val; omega)))
      (fun g u hg => by
        rcases O₀_pos P hg with ⟨k, rfl⟩ | rfl
        · rw [lv_arr]; decide
        · exact Nat.one_pos)
  · rw [MayWait_zero]; iintro -; iempintro

end Cert.Swap

end
-- ==== Proof.Steps.lean ====
/-
# The steps of the exchange

What each stretch of the kernel does to what a device holds: the copy of its block started and awaited, the handshake,
and for every chunk alike its dispatch, its arrival and its departure. A chunk's three steps are stated once, for the
chunk's number, and used four times each.
-/
module

public import proofs.«01_k».proof.Proof.Protocol

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (P : Pairing)
variable (K : Dev nD × Fin 10 → ℕ)

/-- What every device knows of every cell: its invariant, and that its round is open. -/
def records : sProp 𝕄 :=
  iprop((bigSep Finset.univ fun ck : Dev nD × Fin 10 => cellInv ER (swapRd m P) (K ck) (kcell ck))
    ∗ bigSep Finset.univ fun ck : Dev nD × Fin 10 => reached ER (kcell ck) 0)

instance records_persistent : BI.Persistent (records m P K) := by unfold records; infer_instance

theorem rec_inv (ck : Dev nD × Fin 10) : records m P K ⊢ cellInv ER (swapRd m P) (K ck) (kcell ck) :=
  sep_elim_left.trans (bigSep_elim (Φ := fun ck : Dev nD × Fin 10 => (cellInv ER (swapRd m P) (K ck) (kcell ck) : sProp 𝕄)) (Finset.mem_univ ck))
theorem rec_reached (ck : Dev nD × Fin 10) : records m P K ⊢ reached ER (kcell ck) 0 :=
  sep_elim_right.trans (bigSep_elim (Φ := fun ck : Dev nD × Fin 10 => (reached ER (kcell ck) 0 : sProp 𝕄)) (Finset.mem_univ ck))

/-- A device's dues, whatever it has waited on so far. -/
def owing (c : Dev nD) (O : CellTallies nD τ sig Unit) : sProp 𝕄 := iprop(∃ W, owes (c : Thread nD τ) O W)

/-- The result's buffer, right on its first `n` chunks. -/
def outPts (c : Dev nD) (n : ℕ) : sProp 𝕄 :=
  iprop(∃ f, ⌜Done m P c n f⌝ ∗ (((c : Thread nD τ).loc cc0_stg1_0) ↦{fullShare} f))

abbrev 𝒱₀ : Variants := Variants.none

variable {Q : PUnit.{1} → sProp (MT nD τ sig Unit (Elt F) ℕ UU ℕ)}

/-- The rows of any chunk carry the same credit, in the sending buffer as in the receiving one. -/
theorem sd_credit (off inb h) : (sdM.slice (Rect.unit (s := S512x512) off S128x512.size inb) h).view.dmaCredit = Nck := rfl
theorem rv_credit (off inb h) : (rvM.slice (Rect.unit (s := S512x512) off S128x512.size inb) h).view.dmaCredit = Nck := rfl

/-- A whole round awaited on a cell of one's own: its payload, and the cell closed with its counter at zero. -/
theorem wp_await (c : Dev nD) (i : Fin 10) (sm : SemLoc sig) (hi : csem i = sm) (w : TpuEff nD τ sig (Elt F) Λ₀ .tc PUnit.{1}) (n : ℕ)
    (hw : ∀ R : PUnit.{1} → sProp 𝕄, wpE (defs₀ (F := F)) 𝒱₀ (c : Thread nD τ) none Set.univ w R = waitSpec (c : Thread nD τ) Set.univ sm n R)
    (hn : (swapRd (F := F) m P).amount ((c : Thread nD τ), sm) 0 () = n) (O : CellTallies nD τ sig Unit)
    {k : PUnit.{1} → Prog (TpuEff nD τ sig (Elt F) Λ₀ .tc) PUnit.{1}} :
    iprop(records m P K ∗ cred (tallyAt ((c : Thread nD τ), sm) () n) ∗ owing c O ∗ MayWait (c : Thread nD τ) sm () O
        ∗ atPos ER ((c : Thread nD τ), sm) 0 ∅ 0)
      ⊢ iprop(((owing c O ∗ semVal ((c : Thread nD τ), sm) 0 ∗ (swapRd m P).payload ((c : Thread nD τ), sm) 0 ())
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hi
  unfold owing
  iintro ⟨#HR, Hc, ⟨%W, HO⟩, Hmay, Hat⟩ Hk
  ihave #HI := (rec_inv m P K (c, i)) $$ HR
  iapply (Rounds.wp_wait_rest_token 𝒱₀ ER (swapRd m P) (c : Thread nD τ) none (κ := K (c, i)) hw (Set.mem_univ _) () (O := O) (W := W)
      (R := 0) (m := 0) (T := ∅) (by rw [Nat.zero_add, expect_eq, hn])) $$ [Hc HO Hmay Hat]
  · isplitr; · iexact HI
    isplitl [Hc]; · iexact Hc
    isplitl [HO]; · iexact HO
    isplitl [Hmay]; · iexact Hmay
    iexact Hat
  iintro ⟨HO, Hat, -, Hpay⟩
  ihave Hp := (Entails.of_eq (rest_eq m P _)) $$ Hpay
  imod (Rounds.cell_close ER (swapRd m P) (Set.mem_univ (K (c, i))) (fun h => h) (R := 0 + 1) (duties_later m P (kcell (c, i)))) $$ [Hat] with Hz
  · isplitr; · iexact HI
    iexact Hat
  iapply Hk
  isplitl [HO]; · iexists _; iexact HO
  isplitl [Hz]; · iexact Hz
  iexact Hp

/-- The same at a transfer's wait, whose counted amount is its destination's credit. -/
theorem wp_await_dma (c : Dev nD) (i : Fin 10) (s : DmaSem sig) (hi : csem i = .dma s) (n : ℕ)
    {sp sp' : Space} {s₁ s₂ : Shape} {e₁ e₂ : EltTy} {src : Memref sig .tc sp s₁ e₁} {dst : Memref sig .tc sp' s₂ e₂} {h1 h2}
    (hd : dst.view.dmaCredit = n) (hn : (swapRd (F := F) m P).amount ((c : Thread nD τ), .dma s) 0 () = n) (O : CellTallies nD τ sig Unit)
    {k : PUnit.{1} → Prog (TpuEff nD τ sig (Elt F) Λ₀ .tc) PUnit.{1}} :
    iprop(records m P K ∗ cred (tallyAt ((c : Thread nD τ), .dma s) () n) ∗ owing c O ∗ MayWait (c : Thread nD τ) (.dma s) () O
        ∗ atPos ER ((c : Thread nD τ), .dma s) 0 ∅ 0)
      ⊢ iprop(((owing c O ∗ semVal ((c : Thread nD τ), .dma s) 0 ∗ (swapRd m P).payload ((c : Thread nD τ), .dma s) 0 ())
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst h1 h2) k) Q) := by
  subst hd
  exact wp_await m P K c i (.dma s) hi (.waitDma2 s src dst h1 h2) _ (fun R => wpE_waitDma2_eq 𝒱₀ (c : Thread nD τ) none Set.univ R) hn O

/-- The copy of the block started. -/
theorem wp_fetch (c : Dev nD) {s : DmaSem sig} (hs : s = copyS) {h1 h2 h3} {k : PUnit.{1} → Prog (TpuEff nD τ sig (Elt F) Λ₀ .tc) PUnit.{1}} :
    iprop(records m P K ∗ xPts m c ∗ (∃ f, stPts c f) ∗ dutyTok ER (copyCell c) 0 ())
      ⊢ iprop((cred (tallyAt (copyCell c) () Nst) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma srcM (.here stM) (.dma s) h1 h2 h3) k) Q) := by
  subst hs
  iintro ⟨#HR, Hx, ⟨%f, Hst⟩, Ht⟩ Hk
  unfold xPts stPts
  iapply (Rounds.wp_copy_pointsTo 𝒱₀ ER (swapRd m P) (c : Thread nD τ) none (duty m P (copyCell c)) () Nst rfl (amount_copy m P c)
      (κ := K (c, 1)) (fd := f)
      (by rw [payload_copy]; unfold copyPay stPts xPts
          refine sep_mono_left (Entails.of_eq (congrArg _ ?_))
          exact View.write_whole_univ cc0_scratch0 f (stF m c))) $$ [Hx Hst Ht]
  · isplitr; · iapply (rec_inv m P K (c, 1)); iexact HR
    isplitl [Hx]; · iexact Hx
    isplitl [Hst]; · iexact Hst
    isplitl [Ht]; · iexact Ht
    iapply (rec_reached m P K (c, 1)); iexact HR
  iexact Hk

/-- The partner told that this device's receiving buffer is ready. -/
theorem wp_tell (c : Dev nD) {n : Dev nD} (hn : n = P.pal c) {k : PUnit.{1} → Prog (TpuEff nD τ sig (Elt F) Λ₀ .tc) PUnit.{1}} :
    iprop(records m P K ∗ (∃ f, bigSep Finset.univ fun k => rvPts c k f) ∗ owing c (O₀ P c) ∗ dutyTok ER (barCell (P.pal c)) 0 ())
      ⊢ iprop((owing c (owedArr P c 0) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n : Thread nD τ) barS 1) k) Q) := by
  subst hn
  unfold owing
  iintro ⟨#HR, Hrv, ⟨%W, HO⟩, Ht⟩ Hk
  iapply (Rounds.wp_signal 𝒱₀ ER (swapRd m P) (c : Thread nD τ) none (dst := (P.pal c : Thread nD τ)) (κ := K (P.pal c, 0))
      (duty m P (barCell (P.pal c))) (amount_bar m P (P.pal c)) () (owedArr P c 0) rfl) $$ [HO Ht Hrv]
  · isplitr; · iapply (rec_inv m P K (P.pal c, 0)); iexact HR
    isplitl [HO]; · iexact HO
    isplitl [Ht]; · iexact Ht
    isplitl [Hrv]
    · rw [payload_bar]; unfold barPay; rw [P.back]; iexact Hrv
    iapply (rec_reached m P K (P.pal c, 0)); iexact HR
  iintro HO
  iapply Hk
  iexists _; iexact HO

/-- A chunk narrowed into the sending buffer and dispatched to the partner. -/
theorem wp_dispatch (c : Dev nD) (j : Fin 4) (pay : Vec F S128x512 .f32 → FVec F S128x512 .bf16)
    (hpay : ∀ v, pay v = truncf .bf16 v bitsLt_bf16_f32)
    {off : Fin 2 → ℕ} {inb : ∀ a, off a + S128x512.size a ≤ S512x512.size a} (hoff : off = ![128 * j.val, 0])
    {n : Dev nD} (hn : n = P.pal c) {sS sA : DmaSem sig} (hS : sS = depS j) (hA : sA = arrS j)
    {h1 h2 h3 h4 h5 h6 hsc h7 h8 h9} {k : PUnit.{1} → Prog (TpuEff nD τ sig (Elt F) Λ₀ .tc) PUnit.{1}} :
    iprop(records m P K ∗ stPts c (stF m c) ∗ (∃ f, sdPts c j f) ∗ (∃ f, rvPts (P.pal c) j f) ∗ owing c (owedArr P c j.val)
        ∗ dutyTok ER (depCell c j) 0 () ∗ dutyTok ER (arrCell (P.pal c) j) 0 ())
      ⊢ iprop(((stPts c (stF m c) ∗ owing c (owedArr P c (j.val + 1)) ∗ cred (tallyAt (depCell c j) () Nck))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.load stM (Rect.unit (s := S512x512) off S128x512.size inb).toLoadRect h1) fun v =>
               .op (.load sdM (Rect.unit (s := S512x512) off S128x512.size inb).toLoadRect h2) fun _ =>
               .op (.store sdM (Rect.unit (s := S512x512) off S128x512.size inb) (pay v) Finset.univ h3 h4) fun _ =>
               .op (.enqueueDma (sdM.slice (Rect.unit (s := S512x512) off S128x512.size inb) h5)
                  (.remote (Dev.tc n : Thread nD τ) (rvM.slice (Rect.unit (s := S512x512) off S128x512.size inb) h6) (.dma sS) hsc) (.dma sA) h7 h8 h9) k) Q) := by
  subst hoff hn hS hA
  unfold owing
  iintro ⟨#HR, Hst, ⟨%f, Hsd⟩, ⟨%fd, Hrv⟩, ⟨%W, HO⟩, HtS, HtA⟩ Hk
  unfold stPts sdPts rvPts
  iapply (wp_load 𝒱₀ (c : Thread nD τ) none Set.univ (m := stM) (by rw [View.set_whole]; exact Finset.subset_univ _)) $$ Hst; iintro Hst
  iapply (wp_load_rect 𝒱₀ (c : Thread nD τ) none Set.univ (m := sdM) (r := rowR j) (Finset.Subset.refl _)) $$ Hsd; iintro Hsd
  iapply (wp_store 𝒱₀ (c : Thread nD τ) none Set.univ (m := sdM) (r := rowR j) (Mk := Finset.univ) (S := (sdK j).view.set) (Finset.Subset.refl _)) $$ Hsd; iintro Hsd
  ihave Hsd' := (Entails.of_eq (pointsTo_congr (fill_rows m j c f pay hpay))) $$ Hsd
  iapply (Rounds.wp_send_pointsTo 𝒱₀ ER (swapRd m P) (c : Thread nD τ) none (κ₁ := K (c, depI j)) (κ₂ := K (P.pal c, arrI j)) (c' := (P.pal c : Thread nD τ))
      (sS := .dma (depS j)) (sem := .dma (arrS j))
      (src := sdK j) (dst := rvK j) (fs := sdF m c)
      (r₁ := 0) (r₂ := 0) (d₁ := ()) (d₂ := ()) (fd := fd) (duty m P (depCell c j)) (duty m P (arrCell (P.pal c) j))
      () () Nck (rv_credit _ _ _) (amount_dep m P c j) (amount_arr m P (P.pal c) j) (owedArr P c (j.val + 1)) (owedArr_step P c j) (W := W)
      (by rw [payload_dep]; exact BI.Entails.refl _)
      (by rw [payload_arr]; unfold arrPay rvPts rvF; rw [P.back]
          exact Entails.of_eq (pointsTo_congr (land_rows j fd (sdF m c))))) $$ [Hsd' Hrv HO HtS HtA]
  · isplitr; · iapply (rec_inv m P K (c, depI j)); iexact HR
    isplitr; · iapply (rec_inv m P K (P.pal c, arrI j)); iexact HR
    isplitl [Hsd']; · iexact Hsd'
    isplitl [Hrv]; · iexact Hrv
    isplitl [HO]; · iexact HO
    isplitl [HtS]; · iexact HtS
    isplitr; · iapply (rec_reached m P K (c, depI j)); iexact HR
    isplitl [HtA]; · iexact HtA
    iapply (rec_reached m P K (P.pal c, arrI j)); iexact HR
  iintro ⟨Hc, HO⟩
  iapply Hk
  isplitl [Hst]; · iexact Hst
  isplitl [HO]; · iexists _; iexact HO
  iexact Hc

/-- The partner's chunk awaited and widened into the result. -/
theorem wp_arrive (c : Dev nD) (j : Fin 4) (pay : Vec F S128x512 .bf16 → FVec F S1x128x512 .f32)
    (hpay : ∀ v, pay v = shapeCast S1x128x512 (extf .f32 v bitsLt_bf16_f32) shapeCasts_S128x512_S1x128x512)
    {off : Fin 2 → ℕ} {inb : ∀ a, off a + S128x512.size a ≤ S512x512.size a} (hoff : off = ![128 * j.val, 0])
    {off' : Fin 3 → ℕ} {inb' : ∀ a, off' a + S1x128x512.size a ≤ S1x512x512.size a} (hoff' : off' = ![0, 128 * j.val, 0])
    {sA : DmaSem sig} (hA : sA = arrS j)
    {h1 h2 h3 h4 h5 h6 h7 h8} {k : PUnit.{1} → Prog (TpuEff nD τ sig (Elt F) Λ₀ .tc) PUnit.{1}} :
    iprop(records m P K ∗ cred (tallyAt (arrCell c j) () Nck) ∗ owing c 0 ∗ atPos ER (arrCell c j) 0 ∅ 0 ∗ outPts m P c j.val)
      ⊢ iprop(((owing c 0 ∗ semVal (arrCell c j) 0 ∗ rvPts c j (rvF m P c) ∗ outPts m P c (j.val + 1))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sA (sdM.slice (Rect.unit (s := S512x512) off S128x512.size inb) h1)
                  (rvM.slice (Rect.unit (s := S512x512) off S128x512.size inb) h2) h3 h4) fun _ =>
               .op (.load rvM (Rect.unit (s := S512x512) off S128x512.size inb).toLoadRect h5) fun v =>
               .op (.load outM (Rect.unit (s := S1x512x512) off' S1x128x512.size inb').toLoadRect h6) fun _ =>
               .op (.store outM (Rect.unit (s := S1x512x512) off' S1x128x512.size inb') (pay v) Finset.univ h7 h8) k) Q) := by
  subst hoff hoff' hA
  unfold outPts
  iintro ⟨#HR, Hc, HO, Hat, ⟨%f, %hf, Hout⟩⟩ Hk
  iapply (wp_await_dma m P K c (arrI j) (arrS j) rfl Nck (rv_credit _ _ _) (amount_arr m P c j) 0) $$ [Hc HO Hat]
  · isplitr; · iexact HR
    isplitl [Hc]; · iexact Hc
    isplitl [HO]; · iexact HO
    isplitr; · rw [MayWait_zero]; iempintro
    iexact Hat
  iintro ⟨HO, Hz, Hp⟩
  ihave Hp := (Entails.of_eq (payload_arr m P c j)) $$ Hp
  unfold arrPay rvPts
  iapply (wp_load_rect 𝒱₀ (c : Thread nD τ) none Set.univ (m := rvM) (r := rowR j) (Finset.Subset.refl _)) $$ Hp; iintro Hp
  iapply (wp_load 𝒱₀ (c : Thread nD τ) none Set.univ (m := outM) (Finset.subset_univ _)) $$ Hout; iintro Hout
  iapply (wp_store 𝒱₀ (c : Thread nD τ) none Set.univ (m := outM) (r := outR j) (Mk := Finset.univ) (Finset.subset_univ _)) $$ Hout; iintro Hout
  iapply Hk
  isplitl [HO]; · iexact HO
  isplitl [Hz]; · iexact Hz
  isplitl [Hp]; · iexact Hp
  iexists _
  isplitr
  · ipureintro; exact done_succ m P c j f pay hpay hf
  iexact Hout

/-- A chunk's departure awaited: its rows of the sending buffer are the device's again. -/
theorem wp_depart (c : Dev nD) (j : Fin 4)
    {off : Fin 2 → ℕ} {inb : ∀ a, off a + S128x512.size a ≤ S512x512.size a} (hoff : off = ![128 * j.val, 0])
    {sS : DmaSem sig} (hS : sS = depS j) {h1 h2 h3 h4} {k : PUnit.{1} → Prog (TpuEff nD τ sig (Elt F) Λ₀ .tc) PUnit.{1}} :
    iprop(records m P K ∗ cred (tallyAt (depCell c j) () Nck) ∗ owing c 0 ∗ atPos ER (depCell c j) 0 ∅ 0)
      ⊢ iprop(((owing c 0 ∗ semVal (depCell c j) 0 ∗ sdPts c j (sdF m c))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 sS (rvM.slice (Rect.unit (s := S512x512) off S128x512.size inb) h1)
                  (sdM.slice (Rect.unit (s := S512x512) off S128x512.size inb) h2) h3 h4) k) Q) := by
  subst hoff hS
  iintro ⟨#HR, Hc, HO, Hat⟩ Hk
  iapply (wp_await_dma m P K c (depI j) (depS j) rfl Nck (sd_credit _ _ _) (amount_dep m P c j) 0) $$ [Hc HO Hat]
  · isplitr; · iexact HR
    isplitl [Hc]; · iexact Hc
    isplitl [HO]; · iexact HO
    isplitr; · rw [MayWait_zero]; iempintro
    iexact Hat
  iintro ⟨HO, Hz, Hp⟩
  ihave Hp := (Entails.of_eq (payload_dep m P c j)) $$ Hp
  unfold depPay
  iapply Hk
  isplitl [HO]; · iexact HO
  isplitl [Hz]; · iexact Hz
  iexact Hp

end Cert.Swap

end
-- ==== Proof.Body.lean ====
/-
# The kernel's body

The run of one device through its program, from what the launch hands it to what it leaves: the device reads the word of
the permutation that names its partner, and the steps of the exchange follow in the program's order.
-/
module

public import proofs.«01_k».proof.Proof.Steps
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (P : Pairing)
variable (K : Dev nD × Fin 10 → ℕ)

/-! ## The word that names the partner -/

abbrev wordR (c : Dev nD) : Rect S2 := Rect.unit (s := S2) (k0_off1 c) S1.size (k0_off1_inb c)

/-- The word of the permutation device `c` reads. -/
abbrev word (c : Dev nD) : BitVec 32 :=
  (piM.access (wordR c) : View sig .tc _ _ _).read (Elt F) (piF m ρ c) (Shape.Idx.first (s := S1) (numel1_S1.symm ▸ Nat.one_pos))

/-- Read on device `c`, the word `w` sends all its traffic to its partner. -/
def Aims (c : Dev nD) (w : BitVec 32) : Prop :=
  k0_dev1 c w = (P.pal c).val ∧ k0_dev2 c w = (P.pal c).val ∧ k0_dev3 c w = (P.pal c).val ∧ k0_dev4 c w = (P.pal c).val
    ∧ k0_dev5 c w = (P.pal c).val

theorem Aims.chk {P : Pairing} {c : Dev nD} {w : BitVec 32} (h : Aims P c w) : k0_chk1 c w := by
  obtain ⟨h1, h2, h3, h4, h5⟩ := h
  unfold k0_chk1; rw [h1, h2, h3, h4, h5]
  exact ⟨(P.pal c).isLt, (P.pal c).isLt, (P.pal c).isLt, (P.pal c).isLt, (P.pal c).isLt⟩

/-- Every device's word names its partner. -/
def PreOK : Prop := ∀ c, Aims P c (word m ρ c)

/-! ## Ten cells a device -/

omit [FloatOps F] in
theorem four (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ
omit [FloatOps F] in
theorem nine (Φ : Fin 9 → sProp 𝕄) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [(0 : Fin 9), 1, 2, 3, 4, 5, 6, 7, 8] (by decide) (by decide) Φ
omit [FloatOps F] in
theorem ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [(0 : Fin 10), 1, 2, 3, 4, 5, 6, 7, 8, 9] (by decide) (by decide) Φ

/-- Who pays a cell's duty: the partner for the barrier and the arrivals, the device itself for the rest. -/
def payer (c : Dev nD) (i : Fin 10) : Dev nD := if i.val = 0 ∨ 6 ≤ i.val then P.pal c else c

/-- What stays with a device: its places in its own rounds, and the tokens of the duties it pays. -/
def linear (c : Dev nD) : sProp 𝕄 :=
  iprop((bigSep Finset.univ fun i : Fin 10 => atPos ER (kcell (c, i)) 0 ∅ 0)
    ∗ bigSep Finset.univ fun i : Fin 10 => dutyTok ER (kcell (payer P c i, i)) 0 ())

def ghost (c : Dev nD) : sProp 𝕄 := iprop(records m P K ∗ linear P c)

/-- What device `c` starts from. -/
def start (c : Dev nD) : sProp 𝕄 :=
  iprop((∃ K, ghost m P K c) ∗ cred (tallyAt (barCell c) () 1) ∗ (bigSep Finset.univ fun k => cred (tallyAt (arrCell c k) () Nck))
    ∗ levAts L lv ∗ xPts m c)
/-- The three buffers of its own, at whatever they hold. -/
def scratch (c : Dev nD) : sProp 𝕄 :=
  iprop((∃ f, stPts c f) ∗ (∃ f, bigSep Finset.univ fun k => sdPts c k f) ∗ (∃ f, bigSep Finset.univ fun k => rvPts c k f))
def Φ₀ (c : Dev nD) : sProp 𝕄 := iprop(start m P c ∗ scratch c)
/-- What it leaves: its block as it was, its buffers, and every counter at zero. -/
def Φ₁ (c : Dev nD) : sProp 𝕄 := iprop(xPts m c ∗ scratch c ∗ bigSep Finset.univ fun i : Fin 10 => semVal (kcell (c, i)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => piF m ρ c
    | ⟨1, _⟩ => outF m P c
  Φ t := match t with
    | ⟨0, _⟩ => Φ₀ m P c
    | ⟨_ + 1, _⟩ => Φ₁ m c
  q _ := fullShare
  owed t := match t with
    | ⟨0, _⟩ => O₀ P c
    | ⟨_ + 1, _⟩ => 0

omit [FloatOps F] in
theorem bigSep_W (Φ : Fin cfg0.W → sProp 𝕄) : bigSep Finset.univ Φ = iprop(Φ (0 : Fin 2) ∗ Φ (1 : Fin 2)) := bigSep_W0 Φ
theorem cfg0_N : cfg0.N = 1 := N_0
abbrev t₀ : Fin cfg0.N := t0_0
theorem fin_N (t : Fin cfg0.N) : t = t₀ := fin_N0 t
theorem fetch_0 (t : Fin cfg0.N) : (cfg0.win (0 : Fin 2)).fetch t = true := by rw [fin_N t]; exact fetch0_0 _

/-- A window's staging buffer held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

def bodyPre (c : Dev nD) : sProp 𝕄 :=
  iprop(Φ₀ m P c ∗ (dats m ρ P 0 c).owesAt () t₀.castSucc
    ∗ (∃ d, stg c cc0_stg0_0 ((dats m ρ P 0 c).before (0 : Fin 2) t₀ d))
    ∗ (∃ d, stg c cc0_stg1_0 ((dats m ρ P 0 c).before (1 : Fin 2) t₀ d)))
def bodyPost (c : Dev nD) : sProp 𝕄 :=
  iprop(Φ₁ m c ∗ (dats m ρ P 0 c).owesAt () t₀.succ ∗ stg c cc0_stg0_0 (piF m ρ c) ∗ stg c cc0_stg1_0 (outF m P c))

theorem owes_in (c : Dev nD) : (dats m ρ P 0 c).owesAt () t₀.castSucc ⊢ owing c (O₀ P c) := by
  unfold Dat.owesAt Pipeline.owesWithin owing
  iintro ⟨%W, -, HO⟩
  iexists W; iexact HO
theorem owes_out (c : Dev nD) : (owing c 0 : sProp 𝕄) ⊢ (dats m ρ P 0 c).owesAt () t₀.succ := by
  unfold Dat.owesAt Pipeline.owesWithin owing
  iintro ⟨%W, HO⟩
  iexists W
  isplitr; · ipureintro; exact fun _ _ => Or.inl trivial
  iexact HO
/-- Whatever the result's buffer holds, none of its chunks is claimed yet; -/
theorem out_start (c : Dev nD) (f) : (((c : Thread nD τ).loc cc0_stg1_0) ↦{fullShare} f : sProp 𝕄) ⊢ outPts m P c 0 := by
  unfold outPts
  iintro H
  iexists f
  isplitr; · ipureintro; exact done_zero m P c f
  iexact H
/-- with all four it holds the partner's block. -/
theorem out_end (c : Dev nD) : outPts m P c 4 ⊢ stg c cc0_stg1_0 (outF m P c) := by
  unfold outPts
  iintro ⟨%f, %h, H⟩
  iexists f
  isplitr; · ipureintro; exact done_all m P c f h
  iexact H

set_option maxHeartbeats 1600000 in
set_option maxRecDepth 8000 in
/-- The body, from what it starts with to what it leaves. -/
theorem sound_body (hpre : PreOK m ρ P) (c : Dev nD) :
    bodyPre m ρ P c ⊢ wp frame (wpE (defs₀ (F := F)) 𝒱₀ (c : Thread nD τ) none) Set.univ
      (cc0_body (Memref.whole cc0_stg0_0) (Memref.isWhole_whole _) (Memref.whole main_arg0) (Memref.isWhole_whole _)
        (Memref.whole cc0_stg1_0) (Memref.isWhole_whole _) (Memref.whole cc0_scratch0) (Memref.isWhole_whole _)
        (Memref.whole cc0_scratch1) (Memref.isWhole_whole _) (Memref.whole cc0_scratch2) (Memref.isWhole_whole _)
        cc0_scratch3 cc0_scratch4 cc0_scratch5) (fun _ => bodyPost m ρ P c) := by
  simp only [cc0_body_eq_skeleton]; unfold cc0_body_skel
  simp only [k0_part6_eq_skeleton]; unfold k0_part6_skel
  simp only [k0_part5_eq_skeleton]; unfold k0_part5_skel
  simp only [k0_part4_eq_skeleton]; unfold k0_part4_skel
  simp only [k0_part3_eq_skeleton]; unfold k0_part3_skel
  simp only [k0_part2_eq_skeleton]; unfold k0_part2_skel
  simp only [k0_part1_eq_skeleton]; unfold k0_part1_skel
  simp only [semSignalWord, semWaitWord, smemLoad, smemLoadElt, Prog.lift, Prog.bind_op, Prog.bind_ret, Prog.pure_eq_ret, Prog.bind_assoc, wp_deviceId]
  unfold bodyPre Φ₀ start scratch ghost linear
  iintro ⟨⟨⟨⟨%K, #HR, Hat, Htok⟩, HcB, HcA, #Hlev, Hx⟩, Hst, ⟨%fs, Hsd⟩, Hrv⟩, Ho, ⟨%d0, %g0, %hg0, Hpi⟩, ⟨%d1, %g1, %hg1, Hout⟩⟩
  have hpi : g0 = piF m ρ c := by rw [hg0]; unfold Dat.before; rw [if_pos (fetch_0 t₀)]; rfl
  subst hpi
  ihave Hat := (Entails.of_eq (ten _)) $$ Hat
  ihave Htok := (Entails.of_eq (ten _)) $$ Htok
  ihave HcA := (Entails.of_eq (four _)) $$ HcA
  ihave Hsd := (Entails.of_eq (four _)) $$ Hsd
  icases Hat with ⟨HaB, HaC, HaD0, HaD1, HaD2, HaD3, HaA0, HaA1, HaA2, HaA3⟩
  icases Htok with ⟨HtB, HtC, HtD0, HtD1, HtD2, HtD3, HtA0, HtA1, HtA2, HtA3⟩
  icases HcA with ⟨HcA0, HcA1, HcA2, HcA3⟩
  icases Hsd with ⟨Hsd0, Hsd1, Hsd2, Hsd3⟩
  iapply (wp_load_rect 𝒱₀ (c : Thread nD τ) none Set.univ (m := piM) (r := wordR c) (Finset.subset_univ _)) $$ Hpi; iintro Hpi
  simp only [wp_assume_of _ _ _ _ (d := k0_chk1.dec _ _) (hpre c).chk]
  iapply (wp_fetch m P K c copy_sem) $$ [Hx Hst HtC]
  · isplitr; · iexact HR
    isplitl [Hx]; · iexact Hx
    isplitl [Hst]; · iexact Hst
    iexact HtC
  iintro HcC
  ihave HO := (show (dats m ρ P 0 c).owesAt () t₀.castSucc ⊢ owing c (O₀ P c) from owes_in m ρ P c) $$ Ho
  iapply (wp_tell m P K c (Fin.ext (hpre c).1)) $$ [Hrv HO HtB]
  · isplitr; · iexact HR
    isplitl [Hrv]; · iexact Hrv
    isplitl [HO]; · iexact HO
    iexact HtB
  iintro HO
  iapply (wp_await m P K c 0 (.reg barS) rfl (.semWait barS 1) 1 (fun R => wpE_semWait_eq 𝒱₀ (c : Thread nD τ) none Set.univ R)
    (amount_bar m P c) (owedArr P c 0)) $$ [HcB HO HaB]
  · isplitr; · iexact HR
    isplitl [HcB]; · iexact HcB
    isplitl [HO]; · iexact HO
    isplitr; · iapply (mayWait_low P c (.reg barS) (le_refl 1) 0); iexact Hlev
    iexact HaB
  iintro ⟨HO, HzB, Hp⟩
  ihave Hp := (Entails.of_eq (payload_bar m P c)) $$ Hp
  unfold barPay
  icases Hp with ⟨%fr, Hp⟩
  ihave Hp := (Entails.of_eq (four _)) $$ Hp
  icases Hp with ⟨Hrv0, Hrv1, Hrv2, Hrv3⟩
  iapply (wp_await_dma m P K c 1 copyS rfl Nst rfl (amount_copy m P c) (owedArr P c 0)) $$ [HcC HO HaC]
  · isplitr; · iexact HR
    isplitl [HcC]; · iexact HcC
    isplitl [HO]; · iexact HO
    isplitr; · iapply (mayWait_low P c (.dma copyS) (Nat.zero_le 1) 0); iexact Hlev
    iexact HaC
  iintro ⟨HO, HzC, Hp⟩
  ihave Hp := (Entails.of_eq (payload_copy m P c)) $$ Hp
  unfold copyPay
  icases Hp with ⟨Hst, Hx⟩
  iapply (wp_dispatch m P K c 0 (k0_pay1) (fun _ => shapeCast_self _ _) rfl (Fin.ext (hpre c).2.1) (dep_sem 0 _ _ _ rfl) (arr_sem 0 _ _ _ rfl)) $$ [Hst Hsd0 Hrv0 HO HtD0 HtA0]
  · isplitr; · iexact HR
    isplitl [Hst]; · iexact Hst
    isplitl [Hsd0]; · iexists _; iexact Hsd0
    isplitl [Hrv0]; · iexists _; iexact Hrv0
    isplitl [HO]; · iexact HO
    isplitl [HtD0]; · iexact HtD0
    iexact HtA0
  iintro ⟨Hst, HO, HcD0⟩
  iapply (wp_dispatch m P K c 1 (k0_pay2) (fun _ => shapeCast_self _ _) rfl (Fin.ext (hpre c).2.2.1) (dep_sem 1 _ _ _ rfl) (arr_sem 1 _ _ _ rfl)) $$ [Hst Hsd1 Hrv1 HO HtD1 HtA1]
  · isplitr; · iexact HR
    isplitl [Hst]; · iexact Hst
    isplitl [Hsd1]; · iexists _; iexact Hsd1
    isplitl [Hrv1]; · iexists _; iexact Hrv1
    isplitl [HO]; · iexact HO
    isplitl [HtD1]; · iexact HtD1
    iexact HtA1
  iintro ⟨Hst, HO, HcD1⟩
  iapply (wp_dispatch m P K c 2 (fun v => k0_pay4 (k0_pay3 v)) (fun _ => shapeCast_self _ _) rfl (Fin.ext (hpre c).2.2.2.1) (dep_sem 2 _ _ _ rfl) (arr_sem 2 _ _ _ rfl)) $$ [Hst Hsd2 Hrv2 HO HtD2 HtA2]
  · isplitr; · iexact HR
    isplitl [Hst]; · iexact Hst
    isplitl [Hsd2]; · iexists _; iexact Hsd2
    isplitl [Hrv2]; · iexists _; iexact Hrv2
    isplitl [HO]; · iexact HO
    isplitl [HtD2]; · iexact HtD2
    iexact HtA2
  iintro ⟨Hst, HO, HcD2⟩
  iapply (wp_dispatch m P K c 3 (k0_pay5) (fun _ => shapeCast_self _ _) rfl (Fin.ext (hpre c).2.2.2.2) (dep_sem 3 _ _ _ rfl) (arr_sem 3 _ _ _ rfl)) $$ [Hst Hsd3 Hrv3 HO HtD3 HtA3]
  · isplitr; · iexact HR
    isplitl [Hst]; · iexact Hst
    isplitl [Hsd3]; · iexists _; iexact Hsd3
    isplitl [Hrv3]; · iexists _; iexact Hrv3
    isplitl [HO]; · iexact HO
    isplitl [HtD3]; · iexact HtD3
    iexact HtA3
  iintro ⟨Hst, HO, HcD3⟩
  ihave HO := (show (owing c (owedArr P c ((3 : Fin 4).val + 1)) : sProp 𝕄) ⊢ owing c 0 from
    Entails.of_eq (congrArg (owing c) (owedArr_end P c))) $$ HO
  ihave Hout := (out_start m P c g1) $$ Hout
  iapply (wp_arrive m P K c 0 (k0_pay6) (fun _ => rfl) rfl rfl (arr_sem 0 _ _ _ rfl)) $$ [HcA0 HO HaA0 Hout]
  · isplitr; · iexact HR
    isplitl [HcA0]; · iexact HcA0
    isplitl [HO]; · iexact HO
    isplitl [HaA0]; · iexact HaA0
    iexact Hout
  iintro ⟨HO, HzA0, Hrv0, Hout⟩
  iapply (wp_arrive m P K c 1 (fun v => k0_pay8 (k0_pay7 v)) (fun _ => rfl) rfl rfl (arr_sem 1 _ _ _ rfl)) $$ [HcA1 HO HaA1 Hout]
  · isplitr; · iexact HR
    isplitl [HcA1]; · iexact HcA1
    isplitl [HO]; · iexact HO
    isplitl [HaA1]; · iexact HaA1
    iexact Hout
  iintro ⟨HO, HzA1, Hrv1, Hout⟩
  iapply (wp_arrive m P K c 2 (k0_pay9) (fun _ => rfl) rfl rfl (arr_sem 2 _ _ _ rfl)) $$ [HcA2 HO HaA2 Hout]
  · isplitr; · iexact HR
    isplitl [HcA2]; · iexact HcA2
    isplitl [HO]; · iexact HO
    isplitl [HaA2]; · iexact HaA2
    iexact Hout
  iintro ⟨HO, HzA2, Hrv2, Hout⟩
  iapply (wp_arrive m P K c 3 (fun v => k0_pay11 (k0_pay10 v)) (fun _ => rfl) rfl rfl (arr_sem 3 _ _ _ rfl)) $$ [HcA3 HO HaA3 Hout]
  · isplitr; · iexact HR
    isplitl [HcA3]; · iexact HcA3
    isplitl [HO]; · iexact HO
    isplitl [HaA3]; · iexact HaA3
    iexact Hout
  iintro ⟨HO, HzA3, Hrv3, Hout⟩
  iapply (wp_depart m P K c 0 rfl (dep_sem 0 _ _ _ rfl)) $$ [HcD0 HO HaD0]
  · isplitr; · iexact HR
    isplitl [HcD0]; · iexact HcD0
    isplitl [HO]; · iexact HO
    iexact HaD0
  iintro ⟨HO, HzD0, Hsd0⟩
  iapply (wp_depart m P K c 1 rfl (dep_sem 1 _ _ _ rfl)) $$ [HcD1 HO HaD1]
  · isplitr; · iexact HR
    isplitl [HcD1]; · iexact HcD1
    isplitl [HO]; · iexact HO
    iexact HaD1
  iintro ⟨HO, HzD1, Hsd1⟩
  iapply (wp_depart m P K c 2 rfl (dep_sem 2 _ _ _ rfl)) $$ [HcD2 HO HaD2]
  · isplitr; · iexact HR
    isplitl [HcD2]; · iexact HcD2
    isplitl [HO]; · iexact HO
    iexact HaD2
  iintro ⟨HO, HzD2, Hsd2⟩
  iapply (wp_depart m P K c 3 rfl (dep_sem 3 _ _ _ rfl)) $$ [HcD3 HO HaD3]
  · isplitr; · iexact HR
    isplitl [HcD3]; · iexact HcD3
    isplitl [HO]; · iexact HO
    iexact HaD3
  iintro ⟨HO, HzD3, Hsd3⟩
  rw [wp_ret]; imodintro
  unfold bodyPost Φ₁ scratch
  isplitl [Hx Hst Hsd0 Hsd1 Hsd2 Hsd3 Hrv0 Hrv1 Hrv2 Hrv3 HzB HzC HzD0 HzD1 HzD2 HzD3 HzA0 HzA1 HzA2 HzA3]
  · isplitl [Hx]; · iexact Hx
    isplitl [Hst Hsd0 Hsd1 Hsd2 Hsd3 Hrv0 Hrv1 Hrv2 Hrv3]
    · isplitl [Hst]; · iexists _; iexact Hst
      isplitl [Hsd0 Hsd1 Hsd2 Hsd3]
      · iexists (sdF m c)
        iapply (Entails.of_eq (four fun k => sdPts c k (sdF m c)).symm)
        isplitl [Hsd0]; · iexact Hsd0
        isplitl [Hsd1]; · iexact Hsd1
        isplitl [Hsd2]; · iexact Hsd2
        iexact Hsd3
      · iexists (rvF m P c)
        iapply (Entails.of_eq (four fun k => rvPts c k (rvF m P c)).symm)
        isplitl [Hrv0]; · iexact Hrv0
        isplitl [Hrv1]; · iexact Hrv1
        isplitl [Hrv2]; · iexact Hrv2
        iexact Hrv3
    · iapply (Entails.of_eq (ten fun i => semVal (kcell (c, i)) 0).symm)
      isplitl [HzB]; · iexact HzB
      isplitl [HzC]; · iexact HzC
      isplitl [HzD0]; · iexact HzD0
      isplitl [HzD1]; · iexact HzD1
      isplitl [HzD2]; · iexact HzD2
      isplitl [HzD3]; · iexact HzD3
      isplitl [HzA0]; · iexact HzA0
      isplitl [HzA1]; · iexact HzA1
      isplitl [HzA2]; · iexact HzA2
      iexact HzA3
  isplitl [HO]; · iapply (owes_out m ρ P c); iexact HO
  isplitl [Hpi]
  · iexists _; isplitr; · (ipureintro; rfl)
    iexact Hpi
  iapply (out_end m P c); iexact Hout

set_option maxRecDepth 4000 in
/-- What the launch asks of the body on core `c`. -/
theorem body_obligation (hpre : PreOK m ρ P) (c : Dev nD) :
    BodyObligation (dats (F := F) m ρ P 0 c) (defs₀ (F := F)) 𝒱₀ () Set.univ := fun t => by
  rw [fin_N t]
  rw [bigSep_W, bigSep_W]
  simp only [owns_stg]
  exact sound_body m ρ P hpre c

end Cert.Swap

end
-- ==== Proof.Launch.lean ====
/-
# The launch

The ten cells of every device are minted with one token each; every token goes to the device that pays its duty, which is
the device itself or its partner, so the deal is a rearrangement along the pairing. From what each device then starts
with, the body's run gives the run of the whole machine.
-/
module

public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

noncomputable section

namespace Cert.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (P : Pairing)
/-! ## The cells and their tokens, minted and dealt -/

theorem ownSemFacts : Pipeline.OwnSemFacts cfg0.spec osem := by decide

theorem share_eq (c : Dev nD) (w : Fin cfg0.W) : (dats m ρ P 0 c).share w = fullShare := by unfold Dat.share; split <;> rfl

theorem csem_injective : Function.Injective csem := by decide
theorem kcell_injective : Function.Injective (kcell : Dev nD × Fin 10 → GSem nD τ sig) := by
  rintro ⟨c, i⟩ ⟨d, j⟩ h
  have hc : c = d := congrArg (fun g : GSem nD τ sig => g.1.1) h
  have hi : i = j := csem_injective (congrArg Prod.snd h)
  rw [hc, hi]

def swapCells : Finset (GSem nD τ sig) := Finset.univ.map ⟨kcell, kcell_injective⟩
/-- One token a cell: its one duty in round 0. -/
def swapToks : Finset (GSem nD τ sig × ℕ × Unit) :=
  Finset.univ.map ⟨fun ck : Dev nD × Fin 10 => (kcell ck, 0, ()), fun _ _ h => kcell_injective (congrArg Prod.fst h)⟩

def u₀ : UU :=
  (initOf (Pipeline.cells cfgs cellOf_inj) (Pipeline.launchToks cfgs cellOf_inj), initOf swapCells swapToks)

/-- The tokens of a device's own cells. -/
def toks (c : Dev nD) : sProp 𝕄 := bigSep Finset.univ fun i : Fin 10 => dutyTok ER (kcell (c, i)) 0 ()
/-- Its places in its own cells' rounds, and that the rounds are open. -/
def places (c : Dev nD) : sProp 𝕄 :=
  iprop((bigSep Finset.univ fun i : Fin 10 => atPos ER (kcell (c, i)) 0 ∅ 0) ∗ bigSep Finset.univ fun i : Fin 10 => reached ER (kcell (c, i)) 0)

/-- What the launch deals device `c`, -/
def G (c : Dev nD) : sProp 𝕄 :=
  iprop((bigSep Finset.univ fun i : Fin 10 => roundState ER (swapRd m P) (kcell (c, i)) 0) ∗ places c ∗ toks c)
/-- and what the devices make of it together. -/
def G' (c : Dev nD) : sProp 𝕄 := iprop(∃ K, ghost m P K c)

theorem fund_swap : BI.own (ER (initOf swapCells swapToks)) ⊢ (|==> bigSep Finset.univ (G m P) : sProp 𝕄) := by
  have hX (Φ : GSem nD τ sig → sProp 𝕄) :
      bigSep swapCells Φ = bigSep Finset.univ fun c : Dev nD => bigSep Finset.univ fun i : Fin 10 => Φ (kcell (c, i)) := by
    unfold swapCells; rw [bigSep_map, bigSep_univ_prod]; rfl
  have hT : bigSep swapToks (fun x => (dutyTok ER x.1 x.2.1 x.2.2 : sProp 𝕄)) = bigSep Finset.univ fun c : Dev nD => toks c := by
    unfold swapToks; rw [bigSep_map, bigSep_univ_prod]; rfl
  iintro HX
  imod (Rounds.fund ER (swapRd m P) swapCells swapToks) $$ HX with ⟨Hst, Hr, Hat, Htok⟩
  imodintro
  ihave Hst := (Entails.of_eq (hX fun g => roundState ER (swapRd m P) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G places; simp only [bigSep_sep']
  isplitl [Hst]; · iexact Hst
  isplitl [Hat Hr]
  · isplitl [Hat] <;> iassumption
  iexact Htok

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun j : Fin 9 => semVal ((c : Thread nD τ), osem j) 0 := by
  unfold Pipeline.ownSems0; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- A device's ten counters: the barrier's, which the runtime keeps, and the kernel's own nine. -/
theorem sems0_eq (c : Dev nD) :
    (bigSep Finset.univ fun i : Fin 10 => semVal (kcell (c, i)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, ten, nine]; rfl

theorem core_alloc (c : Dev nD) :
    iprop(Pipeline.ownSems0 (Ix := Unit) (Name := ℕ) (U := UU) (Lvl := ℕ) (Val := Elt F) (τ := τ) osem c ∗ unscopedSems0 c ∗ G m P c)
      ⊢ |={Set.univ}=> iprop((bigSep Finset.univ fun i => iprop(∃ κ : ℕ, cellInv ER (swapRd m P) κ (kcell (c, i)))) ∗ places c ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun i : Fin 10 => semVal (kcell (c, i)) 0) ∗ bigSep Finset.univ fun i : Fin 10 => roundState ER (swapRd m P) (kcell (c, i)) 0)
      ⊢ (|={Set.univ}=> bigSep Finset.univ fun i => iprop(∃ κ : ℕ, cellInv ER (swapRd m P) κ (kcell (c, i))) : sProp 𝕄) from by
        rw [← bigSep_sep']
        exact (bigSep_mono fun i _ => (Rounds.body_intro ER (swapRd m P) (kcell (c, i))).trans inv_alloc).trans (bigSep_fupd _ _)) $$ [Hv Hst] with Hinv
  · isplitl [Hv] <;> iassumption
  imodintro
  isplitl [Hinv]; · iexact Hinv
  isplitl [Hat] <;> iassumption

omit [FloatOps F] in
/-- Every token to the device that pays its duty: the devices are paired, so dealing them out is a rearrangement. -/
theorem toks_around : (bigSep Finset.univ fun c : Dev nD => (toks c : sProp 𝕄))
    = bigSep Finset.univ fun c : Dev nD => bigSep Finset.univ fun i : Fin 10 => dutyTok ER (kcell (payer P c i, i)) 0 () := by
  unfold toks
  rw [Pipeline.bigSep_univ_comm, Pipeline.bigSep_univ_comm (fun (c : Dev nD) (i : Fin 10) => (dutyTok ER (kcell (payer P c i, i)) 0 () : sProp 𝕄))]
  refine bigSep_congr fun i _ => ?_
  unfold payer
  by_cases h : i.val = 0 ∨ 6 ≤ i.val
  · simp only [if_pos h]
    exact bigSep_univ_equiv P.equiv (fun c : Dev nD => (dutyTok ER (kcell (c, i)) 0 () : sProp 𝕄))
  · simp only [if_neg h]

theorem keep_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun i => iprop(∃ κ : ℕ, cellInv ER (swapRd m P) κ (kcell (c, i))))
          ∗ places c ∗ toks c) : sProp 𝕄) ⊢ bigSep Finset.univ (G' m P) := by
  unfold places
  rw [bigSep_sep', bigSep_sep', bigSep_sep', ← bigSep_univ_prod (fun ck : Dev nD × Fin 10 => iprop(∃ κ : ℕ, cellInv ER (swapRd m P) κ (kcell ck))),
    ← bigSep_univ_prod (fun ck : Dev nD × Fin 10 => (reached ER (kcell ck) 0 : sProp 𝕄)), toks_around P]
  iintro ⟨HI, ⟨Hat, #HR⟩, Htok⟩
  ihave HK := (BI.bigSep_exists_pi Finset.univ (fun (ck : Dev nD × Fin 10) (κ : ℕ) => (cellInv ER (swapRd m P) κ (kcell ck) : sProp 𝕄))) $$ HI
  icases HK with ⟨%K, #HI⟩
  iapply (keep_records (R := records m P K) (Φ := linear P) fun c _ => by
    unfold G' ghost
    iintro H
    iexists K
    iexact H)
  isplitr
  · unfold records; isplitl; · iexact HI
    iexact HR
  unfold linear
  rw [bigSep_sep']
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m P c) : sProp 𝕄)
    ⊢ |={Set.univ}=> bigSep Finset.univ (G' m P) :=
  ((bigSep_mono fun c _ => core_alloc m P c).trans (bigSep_fupd _ _)).trans (BI.fupd_mono (regroup m P))

/-! ## What the devices owe each other at launch -/

theorem bar_eq_iff {a b : Dev nD} : barCell a = barCell b ↔ a = b :=
  ⟨fun h => congrArg (fun g : GSem nD τ sig => g.1.1) h, fun h => h ▸ rfl⟩
theorem arrS_injective : Function.Injective arrS := by decide
theorem arr_eq_iff {a b : Dev nD} {j k : Fin 4} : arrCell a j = arrCell b k ↔ a = b ∧ j = k :=
  ⟨fun h => ⟨congrArg (fun g : GSem nD τ sig => g.1.1) h, arrS_injective (SemLoc.dma.inj (congrArg Prod.snd h))⟩, fun h => by rw [h.1, h.2]⟩
theorem bar_ne_arr {a b : Dev nD} {k : Fin 4} : barCell a ≠ arrCell b k := fun h => by cases congrArg Prod.snd h

theorem pal_eq_iff {d c : Dev nD} : c = P.pal d ↔ d = P.pal c :=
  ⟨fun h => by rw [h, P.back], fun h => by rw [h, P.back]⟩

theorem owed_bar (d c : Dev nD) : O₀ P d (barCell c) () = if d = P.pal c then 1 else 0 := by
  unfold O₀
  rw [Pi.add_apply, Finsupp.add_apply, owedArr_apply, tallyAt_apply, Finset.sum_eq_zero fun k _ => if_neg fun h => bar_ne_arr h.1, Nat.zero_add]
  exact if_congr ((and_iff_left rfl).trans (bar_eq_iff.trans (pal_eq_iff P))) rfl rfl

theorem owed_arr (d c : Dev nD) (j : Fin 4) : O₀ P d (arrCell c j) () = if d = P.pal c then Nck else 0 := by
  unfold O₀
  rw [Pi.add_apply, Finsupp.add_apply, owedArr_apply, tallyAt_apply, if_neg (fun h => bar_ne_arr h.1.symm), Nat.add_zero]
  by_cases h : d = P.pal c
  · have hc : c = P.pal d := (pal_eq_iff P).mpr h
    rw [if_pos h, Finset.sum_eq_single j (fun k _ hk => if_neg fun e => hk (arr_eq_iff.mp e.1).2.symm)
      (fun hj => absurd (Finset.mem_filter.mpr ⟨Finset.mem_univ j, Nat.zero_le j.val⟩) hj)]
    exact if_pos ⟨by rw [← hc], rfl⟩
  · rw [if_neg h]
    exact Finset.sum_eq_zero fun k _ => if_neg fun e => h ((pal_eq_iff P).mp (arr_eq_iff.mp e.1).1)

theorem launch_bar (c : Dev nD) :
    tallyOn (barCell c) (launchCredit (Pipeline.owing (O₀ P)) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar P d c,
    Finset.sum_ite_eq' Finset.univ (P.pal c) fun _ => 1, if_pos (Finset.mem_univ _)]

theorem launch_arr (c : Dev nD) (k : Fin 4) :
    tallyOn (arrCell c k) (launchCredit (Pipeline.owing (O₀ P)) 0 (arrCell c k)) = (tallyAt (arrCell c k) () Nck : CellTallies nD τ sig Unit) := by
  unfold tallyAt; refine congrArg _ (Finsupp.ext fun u => ?_); cases u
  rw [Pipeline.launchCredit_owing, Finsupp.single_eq_same, Finset.sum_congr rfl fun d _ => owed_arr P d c k,
    Finset.sum_ite_eq' Finset.univ (P.pal c) fun _ => Nck, if_pos (Finset.mem_univ _)]

/-- The cells a device may expect transfers on. -/
def arrLocs : Finset (SemLoc sig) :=
  Finset.univ.map ⟨fun k : Fin 4 => (.dma (arrS k) : SemLoc sig), fun _ _ h => arrS_injective (SemLoc.dma.inj h)⟩

omit [FloatOps F] in
theorem creds (c : Dev nD) :
    (Pipeline.launchCred (O₀ P) c : sProp 𝕄)
      ⊢ iprop(cred (tallyAt (barCell c) () 1) ∗ bigSep Finset.univ fun k => cred (tallyAt (arrCell c k) () Nck)) := by
  unfold Pipeline.launchCred
  rw [bigSep_univ_at _ (SemLoc.reg barS), launch_bar]
  have hsub : arrLocs ⊆ Finset.univ.erase (SemLoc.reg barS) := fun sm h => by
    obtain ⟨k, -, rfl⟩ := Finset.mem_map.mp h
    exact Finset.mem_erase.mpr ⟨fun e => (nomatch e), Finset.mem_univ _⟩
  refine sep_mono_right ((bigSep_subset hsub).trans ?_)
  unfold arrLocs
  rw [bigSep_map]
  exact bigSep_mono fun k _ => Entails.of_eq (congrArg cred (launch_arr P c k))

/-! ## From the launch to the body and back -/

omit [FloatOps F] in
theorem rest_eq_x (c : Dev nD) :
    (Pipeline.unscopedRestP Pipeline.Prefetch.none cfg0.spec c (fun b => m ((c : Thread nD τ).loc b)) : sProp 𝕄) = xPts m c := by
  rw [Pipeline.unscopedRestP_eq_of_list cfg0.spec c Pipeline.Prefetch.none _ [main_arg0] (by decide) (by decide), xPts_eq]; rfl

theorem start_intro (c : Dev nD) :
    iprop(Pipeline.unscopedRestP Pipeline.Prefetch.none cfg0.spec c (fun b => m ((c : Thread nD τ).loc b)) ∗ levAts L lv
        ∗ Pipeline.launchCred (O₀ P) c ∗ prngReg c (ρ c) ∗ G' m P c)
      ⊢ |={Set.univ}=> iprop(start m P c ∗ emp) := by
  rw [rest_eq_x]
  iintro ⟨Hx, Hlev, Hcr, -, HG⟩
  ihave Hc := (creds (F := F) P c) $$ Hcr
  icases Hc with ⟨H1, HN⟩
  imodintro
  unfold start G'
  isplitl
  · isplitl [HG]; · iexact HG
    isplitl [H1]; · iexact H1
    isplitl [HN]; · iexact HN
    isplitl [Hlev] <;> iassumption
  · iempintro

omit [FloatOps F] in
/-- The three buffers as the launch counts them are the device's scratch. -/
theorem scratch_eq (c : Dev nD) : (Pipeline.scopedRest cfg0.spec c : sProp 𝕄) = scratch c := by
  rw [scopedRest0_eq]
  unfold scratch
  simp only [stPts_eq, ← sd_chunks, ← rv_chunks]

theorem phi0_intro (c : Dev nD) :
    iprop(start m P c ∗ Pipeline.prefHeld Pipeline.Prefetch.none c (fun _ => fullShare.right) (fun k => k.elim0) ∗ Pipeline.scopedRest cfg0.spec c)
      ⊢ (dats m ρ P 0 c).Φ 0 := by
  rw [show (dats m ρ P 0 c).Φ 0 = Φ₀ m P c from rfl, scratch_eq]
  unfold Φ₀
  iintro ⟨Hs, -, Hr⟩
  isplitl [Hs] <;> iassumption

theorem phi1_exit (c : Dev nD) :
    (dats m ρ P 0 c).Φ (Fin.last cfg0.N) ⊢ iprop((xPts m c ∗ unscopedSems0 c) ∗ Pipeline.ownSems0 osem c ∗ Pipeline.scopedRest cfg0.spec c) := by
  rw [show (dats m ρ P 0 c).Φ (Fin.last cfg0.N) = Φ₁ m c from rfl, scratch_eq]
  unfold Φ₁
  rw [sems0_eq]
  iintro ⟨Hx, Hr, Hu, Ho⟩
  isplitl [Hx Hu]
  · isplitl [Hx] <;> iassumption
  isplitl [Ho] <;> iassumption

theorem waits (c : Dev nD) : (levAts L lv : sProp 𝕄) ⊢ Pipeline.cellsWaits cfgs (dats m ρ P) () 0 c :=
  Pipeline.cellsWaits_intro cfgs (dats m ρ P) () 0 c fun w s t =>
    mayWait_stage P c _ (by fin_cases w <;> fin_cases s <;> decide) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m ρ P 0 c).arrAt w cfg0.N

/-- Every window's array as computed, and every device's block of `x` as it was. -/
def QC : PUnit × MemSt nD τ sig (Elt F) → Prop := fun r =>
  ∀ c : Dev nD, (∀ w : Fin cfg0.W, r.2.mem ((cfg0.win w).arr.view.loc (c : Thread nD τ)) = finalA m ρ P c w)
    ∧ r.2.mem ((c : Thread nD τ).loc main_arg0) = m ((c : Thread nD τ).loc main_arg0)

set_option maxRecDepth 8000 in
theorem run_swap (hpre : PreOK m ρ P) :
    θ_run defs (onTc (τ := τ) (main (F := F))) (s₀ m ρ) (fun r => QC m ρ P r ∧ r.2.sem = fun _ => 0) :=
  Pipeline.θ_run_region_owing_glob_pf (fun p => (cfgs p).toPCfg) (fun p => (cfgs p).toPCfg_adm) (dats m ρ P) () cellOf_inj (0 : Fin 1)
    winFacts0.to₀ ownSemFacts (Pipeline.PreFacts.none _) EP defs₀ 𝒱₀ m ρ main
    (hmain := fun _ => rfl)
    (hbody := body_obligation m ρ P hpre) (hne := fun w => by fin_cases w <;> exact Nat.succ_pos _) (harr := arr_whole0) (hstage := stage_whole0)
    (hshare := share_eq m ρ P)
    (hdistinct := winFacts0.arr_inj)
    (O₀ := O₀ P) (howed₀ := fun _ => rfl) (howedN := fun _ => rfl)
    (L := L) (lv := lv) (hL := L_of_ne) (hwaits := waits m ρ P)
    (G := G m P) (G' := G' m P) (u₀ := u₀)
    (hu₀ := by
      unfold u₀
      iintro Hu
      ihave H := (ownU_pair _ _) $$ Hu
      icases H with ⟨HP, HX⟩
      imod (fund_swap m P) $$ HX with HG
      imodintro
      isplitl [HP] <;> iassumption)
    (hglob := glob m P)
    (hA := fun _ _ => rfl) (hpf := fun _ k => k.elim0)
    (X := start m P) (Y := fun c => iprop(xPts m c ∗ unscopedSems0 c)) (Z := fun _ => iprop(emp))
    (hX := start_intro m ρ P) (hin := phi0_intro m ρ P) (hout := phi1_exit m ρ P)
    (QY := fun c s => s.mem ((c : Thread nD τ).loc main_arg0) = m ((c : Thread nD τ).loc main_arg0)
      ∧ ∀ sm : SemLoc sig, sm.isScoped .tc = false → s.sem ((c.tc : Thread nD τ), sm) = 0)
    (hY := fun c s' => by
      rw [xPts_eq]
      iintro ⟨⟨Hx, Hu⟩, -, HSI⟩
      icombine HSI Hx gives %h
      imod (Pipeline.unscopedSems0_read (X := unscopedSems0 c) (c := c) fupd_intro s') $$ [Hu HSI] with ⟨%hu, HSI⟩
      · isplitl [Hu] <;> iassumption
      imodintro
      isplitr
      · ipureintro; exact ⟨Buf.eq_of_forall_mem_univ h, hu⟩
      iexact HSI)
    (hQ := fun _ h hs => ⟨fun c => ⟨(h c).1, (h c).2.2.1⟩, sem_eq_zero hs fun c => (h c).2.2.2⟩)

end Cert.Swap

end
-- ==== Proof.Reference.lean ====
/-
# The reference: slabs gathered by the inverse of the permutation

The reference sorts the two places by the permutation's entries and gathers the slabs of `x` in that order. A permutation
of two places is its own inverse, so the slab gathered into place `k` is the one the permutation's `k`th entry names.
-/
module

public import proofs.«01_k».proof.Proof.Gen.ReferenceIdeal
public import Idealize.ShloMosaic.Lib.StableHlo.Run

@[expose] public section

noncomputable section

namespace Cert.Ref

open Cert.ReferenceIdeal Cert.ReferenceIdeal.Gen
open Idealize.ShloMosaic Idealize.ShloMosaic.TcCoe Idealize.ShloMosaic.StableHlo Idealize.SL.Sem

variable {F : FTy → Type} [FloatOps F] {α : Type}

/-! ## The run -/

/-- The places in the order of their entries. -/
def sorted (p : IVec S2 32) : IVec S2 32 := (Host.sort2 S2 0 comparator_i32_i32_d0 p (iotaInDim S2 32 0)).2

/-- The same as the gather takes them: a negative place counted from the end, one place a row. -/
def rows (p : IVec S2 32) : IVec S2x1 32 :=
  broadcastInDim S2x1 ![0] bcast_S2_S2x1_0
    (select (cmpi .slt (sorted p) (broadcastInDim S2 ![] bcast_S_S2 (constantI S_ 32 0#32)))
      (addi (sorted p) (broadcastInDim S2 ![] bcast_S_S2 (constantI S_ 32 2#32))) (sorted p))

/-- The reference's result. -/
def gathered (x : S2x512x512.Idx → α) (p : IVec S2 32) : S2x512x512.Idx → α :=
  Host.gather gather_S2x512x512_S2x1_S2x512x512_12_0_n_n_0_1_1512512 x (rows p)

/-- The operations, in order. -/
abbrev ops : List (HloOp τ sig (Elt F)) :=
  [ nullary main_call0_v0 (iotaInDim S2 32 0),
    binary main_arg1 main_call0_v0 main_call0_v1_0 (fun x y => (Host.sort2 S2 0 comparator_i32_i32_d0 x y).1),
    binary main_arg1 main_call0_v0 main_v0 (fun x y => (Host.sort2 S2 0 comparator_i32_i32_d0 x y).2),
    nullary main_c (constantI S_ 32 0#32),
    unary main_c main_v1 (broadcastInDim S2 ![] bcast_S_S2),
    binary main_v0 main_v1 main_v2 (cmpi .slt),
    nullary main_c_0 (constantI S_ 32 2#32),
    unary main_c_0 main_v3 (broadcastInDim S2 ![] bcast_S_S2),
    binary main_v0 main_v3 main_v4 addi,
    ternary main_v2 main_v4 main_v0 main_v5 select,
    unary main_v5 main_v6 (broadcastInDim S2x1 ![0] bcast_S2_S2x1_0),
    binary main_arg0 main_v6 main_v7 (fun x i => Host.gather gather_S2x512x512_S2x1_S2x512x512_12_0_n_n_0_1_1512512 x i) ]

theorem main_eq (c : Dev nD) : main (F := F) c = seq ops := rfl

theorem out_eq (V : Valuation τ sig (Elt F)) :
    after ops V (main_v7 : DevRef τ sig) = gathered (V (main_arg0 : DevRef τ sig)) (V (main_arg1 : DevRef τ sig)) := by
  after_results
  rfl
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..⟩

/-- The reference's run: its result in its buffer, its arguments as they were. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v7)
            = gathered (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v7).trans (out_eq _), (h c main_arg0).trans (arg0_eq _), (h c main_arg1).trans (arg1_eq _)⟩,
      funext fun g => by rcases g with ⟨_, s | s⟩ <;> exact s.elim0⟩)
    (run_seq scopedRefs_eq scopedSems_eq defs main (fun _ => ops) main_eq (fun _ => ops_sub) m ρ)

/-! ## The slabs it gathers -/

/-- The permutation that sends place `k` to place `σ k`, as its entries. -/
def entries (σ : Fin 2 → Fin 2) : IVec S2 32 := fun i => BitVec.ofNat 32 (σ (i 0)).val

/-- Slab `σ k` at place `k`. -/
def slabs (σ : Fin 2 → Fin 2) (x : S2x512x512.Idx → α) : S2x512x512.Idx → α :=
  fun i => x (Function.update i (0 : Fin 3) (σ (i 0)))

/-- The row index of place `k`. -/
def place (k : Fin 2) : S2x1.Idx := fun a => match a with
  | ⟨0, _⟩ => k
  | ⟨1, _⟩ => ⟨0, Nat.one_pos⟩

/-- A permutation of two places is its own inverse. -/
theorem rows_entries (σ : Fin 2 → Fin 2) (h : ∀ k, σ (σ k) = k) (k : Fin 2) :
    min (rows (entries σ) (place k)).toInt.toNat 1 = (σ k).val := by
  revert σ k; decide +kernel

/-- The gather at row indices that name slab `σ k` for place `k`. -/
theorem gather_slabs (x : S2x512x512.Idx → α) (idx : IVec S2x1 32) (σ : Fin 2 → Fin 2)
    (h : ∀ k, min (idx (place k)).toInt.toNat 1 = (σ k).val) :
    Host.gather gather_S2x512x512_S2x1_S2x512x512_12_0_n_n_0_1_1512512 x idx = slabs σ x := by
  funext j
  unfold Host.gather slabs
  congr 1
  funext a
  refine Fin.ext ?_
  have hs : gather_S2x512x512_S2x1_S2x512x512_12_0_n_n_0_1_1512512.siIdx j ⟨0, Nat.one_pos⟩ = place (j 0) := by
    funext b
    refine Fin.ext ?_
    match b with
    | ⟨0, _⟩ => rfl
    | ⟨1, _⟩ => rfl
  match a with
  | ⟨0, _⟩ =>
    refine Eq.trans ?_ ((congrArg (fun i => min (idx i).toInt.toNat 1) hs).trans (h (j 0)))
    rfl
  | ⟨1, _⟩ => exact Nat.zero_add _
  | ⟨2, _⟩ => exact Nat.zero_add _

theorem gathered_entries (σ : Fin 2 → Fin 2) (h : ∀ k, σ (σ k) = k) (x : S2x512x512.Idx → α) :
    gathered x (entries σ) = slabs σ x := gather_slabs x _ σ (rows_entries σ h)

end Cert.Ref

end
-- ==== Proof.Values.lean ====
/-
# What the run leaves

A permutation of two places pairs the devices: the partner differs in the mesh's second coordinate exactly where the
permutation moves the place. If every device holds that permutation, every word it reads names its partner, and the run
leaves on each device the partner's block, which is the device's block of the permuted slabs.
-/
module

public import proofs.«01_k».proof.Proof.Launch
public import proofs.«01_k».proof.Proof.Reference
public import proofs.«01_k».proof.Proof.Gen.Pre_exchanges_Kernel
public import proofs.«01_k».proof.Proof.Gen.Pre_keeps_Kernel
public import Idealize.ShloMosaic.Lib.Layout
public import Idealize.ShloMosaic.Lib.Pipeline.Value
public import Idealize.ShloMosaic.Lib.ValueIdx

@[expose] public section

noncomputable section

namespace Cert.Swap

open Cert.KernelIdeal Cert.KernelIdeal.Gen
open Cert.Ref (entries slabs)

open Idealize.ShloMosaic
open Idealize.ShloMosaic.TcCoe
open Idealize.SL.Sem
open Idealize.ShloMosaic.Pipeline (Dat Cfg Window)

variable {F : FTy → Type} [FloatOps F]

/-! ## Partners under a permutation of two places -/

/-- A device's second coordinate on the mesh. -/
def place (c : Dev nD) : Fin 2 := ⟨c.val / 2 % 2, Nat.mod_lt _ (by decide)⟩

/-- The device that differs from `c` only in the second coordinate, where it has `σ` of `c`'s. -/
def partner (σ : Fin 2 → Fin 2) (c : Dev nD) : Dev nD :=
  ⟨4 * (c.val / 4) + 2 * (σ (place c)).val + c.val % 2, by
    have hc : c.val < 8 := c.isLt
    have hs := (σ (place c)).isLt
    show _ < 8
    omega⟩

theorem place_partner (σ : Fin 2 → Fin 2) (c : Dev nD) : place (partner σ c) = σ (place c) := by
  have hs := (σ (place c)).isLt
  refine Fin.ext ?_
  show (4 * (c.val / 4) + 2 * (σ (place c)).val + c.val % 2) / 2 % 2 = (σ (place c)).val
  omega

/-- A permutation of two places is its own inverse, so it pairs the devices. -/
def meet (σ : Fin 2 → Fin 2) (h : ∀ k, σ (σ k) = k) : Pairing where
  pal := partner σ
  back := fun c => Fin.ext (by
    show 4 * ((partner σ c).val / 4) + 2 * (σ (place (partner σ c))).val + (partner σ c).val % 2 = c.val
    rw [place_partner, h]
    have hs := (σ (place c)).isLt
    show 4 * ((4 * (c.val / 4) + 2 * (σ (place c)).val + c.val % 2) / 4) + 2 * (c.val / 2 % 2)
      + (4 * (c.val / 4) + 2 * (σ (place c)).val + c.val % 2) % 2 = c.val
    omega)

/-- Where an entry `k` sends the device's traffic. -/
theorem dev_entry : ∀ (c : Dev nD) (k : Fin 2),
    k0_dev1 c (BitVec.ofNat 32 k.val) = 4 * (c.val / 4) + 2 * k.val + c.val % 2
    ∧ k0_dev2 c (BitVec.ofNat 32 k.val) = 4 * (c.val / 4) + 2 * k.val + c.val % 2
    ∧ k0_dev3 c (BitVec.ofNat 32 k.val) = 4 * (c.val / 4) + 2 * k.val + c.val % 2
    ∧ k0_dev4 c (BitVec.ofNat 32 k.val) = 4 * (c.val / 4) + 2 * k.val + c.val % 2
    ∧ k0_dev5 c (BitVec.ofNat 32 k.val) = 4 * (c.val / 4) + 2 * k.val + c.val % 2 := by
  decide +kernel

theorem word_place : ∀ c : Dev nD, k0_off1 c 0 = (place c).val := by decide +kernel

/-! ## The whole-array windows -/

theorem whole_pi : (fun a => (win0_0.index (0 : Fin 1)) a * main_arg1.ty.shape.size a) = fun _ => 0 :=
  funext fun a => by fin_cases a; decide
theorem whole_out : (fun a => (win0_1.index (0 : Fin 1)) a * main_v1.ty.shape.size a) = fun _ => 0 :=
  funext fun a => by fin_cases a <;> decide

section Run

variable (m : (ℓ : Loc nD τ sig) → Buf (Elt F) ℓ) (ρ : Dev nD → PrngReg) (P : Pairing)

/-- The staged permutation is the device's own copy. -/
theorem piF_eq (c : Dev nD) : piF m ρ c = m ((c : Thread nD τ).loc main_arg1) :=
  Memref.read_access_unit_zero (Elt F) main_arg1 whole_pi _ _

/-- The entry a device reads is the one at its own second coordinate. -/
theorem word_eq (σ : Fin 2 → Fin 2) (c : Dev nD) (h : m ((c : Thread nD τ).loc main_arg1) = entries σ) :
    word m ρ c = BitVec.ofNat 32 (σ (place c)).val := by
  unfold word
  rw [piF_eq, h]
  show BitVec.ofNat 32 (σ _).val = _
  congr 3
  refine Fin.ext ?_
  show k0_off1 c 0 + 1 * _ = (place c).val
  rw [word_place]
  exact (congrArg ((place c).val + ·) (show 1 * 0 = 0 from rfl)).trans (Nat.add_zero _)

/-- If every device holds the permutation, every word names the partner. -/
theorem preOK (σ : Fin 2 → Fin 2) (hσ : ∀ k, σ (σ k) = k)
    (h : ∀ c : Dev nD, m ((c : Thread nD τ).loc main_arg1) = entries σ) : PreOK m ρ (meet σ hσ) := fun c => by
  rw [word_eq m ρ σ c (h c)]
  exact dev_entry c (σ (place c))

/-- The permutation's array is only read. -/
theorem finalA_pi (c : Dev nD) : finalA m ρ P c (0 : Fin 2) = m ((c : Thread nD τ).loc main_arg1) :=
  (dats (F := F) m ρ P 0 c).arrAt_in (0 : Fin 2) rfl _

/-- The result's array ends with what the body computed. -/
theorem finalA_out (c : Dev nD) : finalA m ρ P c (1 : Fin 2) = outF m P c := by
  have h : (win0_1.blk (0 : Fin 1)).view.read (Elt F) (finalA m ρ P c (1 : Fin 2)) = outF m P c := by
    unfold finalA
    rw [show cfg0.N = ((0 : Fin 1) : Fin cfg0.N).val + 1 from rfl, (dats m ρ P 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 whole_out _ _).symm.trans h

/-- The run from memories where every device holds the permutation `σ`. -/
theorem run_perm (σ : Fin 2 → Fin 2) (hσ : ∀ k, σ (σ k) = k)
    (h : ∀ c : Dev nD, m ((c : Thread nD τ).loc main_arg1) = entries σ) :
    θ_run defs (onTc (τ := τ) (main (F := F))) ⟨m, fun _ => 0, ρ⟩ fun r =>
      (∀ c : Dev nD, r.2.mem ((c : Thread nD τ).loc main_v1) = outF m (meet σ hσ) c
        ∧ r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono
    (fun r hr => ⟨fun c => ⟨((hr.1 c).1 (1 : Fin 2)).trans (finalA_out m ρ _ c), (hr.1 c).2,
      ((hr.1 c).1 (0 : Fin 2)).trans (finalA_pi m ρ _ c)⟩, hr.2⟩)
    (run_swap m ρ (meet σ hσ) (preOK m ρ σ hσ h))

/-- The same, of the arguments and the counters alone. -/
theorem frame_perm (σ : Fin 2 → Fin 2) (hσ : ∀ k, σ (σ k) = k)
    (h : ∀ c : Dev nD, m ((c : Thread nD τ).loc main_arg1) = entries σ) :
    θ_run defs (onTc (τ := τ) (main (F := F))) ⟨m, fun _ => 0, ρ⟩ fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0 :=
  (θ_run defs _ _).mono (fun r hr => ⟨fun c => (hr.1 c).2, hr.2⟩) (run_perm m ρ σ hσ h)

end Run

/-! ## What the preconditions say -/

theorem eq_of_compared {p q : IVec S2 32} (h : cmpi .eq p q = fun _ => 1#1) : p = q := funext fun i => by
  have hi : BitVec.ofBool (p i == q i) = 1#1 := congrFun h i
  refine eq_of_beq ?_
  cases hb : (p i == q i)
  · rw [hb] at hi; exact absurd hi (by decide)
  · rfl

theorem exchanged_entry : ∀ k : Fin 2, 1#32 - BitVec.ofNat 32 k.val = BitVec.ofNat 32 (Fin.rev k).val := by decide

theorem entries_of_exchanges {x : FVec F S1x512x512 .f32} {p : IVec S2 32}
    (h : Cert.Pre_exchanges_Kernel.fn (F := F) x p = fun _ => 1#1) : p = entries Fin.rev :=
  (eq_of_compared h).trans (funext fun i => exchanged_entry (i 0))

theorem entries_of_keeps {x : FVec F S1x512x512 .f32} {p : IVec S2 32}
    (h : Cert.Pre_keeps_Kernel.fn (F := F) x p = fun _ => 1#1) : p = entries id :=
  (eq_of_compared h).trans rfl

/-! ## The result over the extended reals -/

section Ideal

variable (m : (ℓ : Loc nD τ sig) → Buf (Elt Ideal) ℓ) (P : Pairing)

theorem cast_block : S1x512x512.ShapeCasts S512x512 := by decide

/-- Narrowing and widening change nothing there, so a device's result is its partner's block of `x`. -/
theorem outF_ideal (c : Dev nD) : outF m P c = m ((P.pal c : Thread nD τ).loc main_arg0) := by
  have hread : stF m (P.pal c) = shapeCast S512x512 (m ((P.pal c : Thread nD τ).loc main_arg0)) cast_block :=
    (Memref.read_squeeze_slice xM _ (fun _ => rfl) squeezes_S1x512x512_S512x512 cast_block _).trans
      (congrArg (fun v => shapeCast S512x512 v _)
        (Memref.readAt_unit_zero (Elt Ideal) main_arg0 (funext fun a => by fin_cases a <;> rfl) _ _))
  show shapeCast S1x512x512 (stF m (P.pal c)) cast_512 = _
  rw [hread]
  exact shapeCast_shapeCast _ _ _

/-- A device's block lies in the slab of its second coordinate. -/
theorem slab_place : ∀ c : Dev nD, Layout.meshLin [2, 2, 2] c.val [1] = (place c).val := by decide +kernel

theorem moved_slab (σ : Fin 2 → Fin 2) (j : (⟨3, ![2, 512, 512]⟩ : Shape).Idx) :
    Function.update j (0 : Fin 3) (σ (j 0)) (0 : Fin 3) = σ (j 0) := Function.update_self _ _ _

/-- The partner's block of an array of two slabs is the device's own block of the slabs permuted. -/
theorem block_slabs (σ : Fin 2 → Fin 2) (c : Dev nD) (X : (⟨3, ![2, 512, 512]⟩ : Shape).Idx → EReal) :
    Layout.blockN ⟨3, ![1, 512, 512]⟩ ⟨3, ![2, 512, 512]⟩ (Layout.meshBlock [2, 2, 2] ![[1], [], []] (partner σ c)) X
      = Layout.blockN ⟨3, ![1, 512, 512]⟩ ⟨3, ![2, 512, 512]⟩ (Layout.meshBlock [2, 2, 2] ![[1], [], []] c) (slabs σ X) := by
  funext i
  refine congrArg X (funext fun a => ?_)
  have h0 : (i 0).val = 0 := Nat.lt_one_iff.mp (i 0).isLt
  match a with
  | 0 =>
    refine Eq.trans (Fin.ext ?_) (moved_slab σ _).symm
    show Layout.meshLin [2, 2, 2] (partner σ c).val [1] * 1 + (i 0).val = (σ _).val
    rw [h0, slab_place, place_partner, Nat.mul_one, Nat.add_zero]
    refine congrArg (fun k => (σ k).val) (Fin.ext ?_)
    show (place c).val = Layout.meshLin [2, 2, 2] c.val [1] * 1 + (i 0).val
    rw [h0, slab_place, Nat.mul_one, Nat.add_zero]
  | 1 => exact (Function.update_of_ne (by decide) _ _).symm
  | 2 => exact (Function.update_of_ne (by decide) _ _).symm

end Ideal

end Cert.Swap

end
-- ==== Proof.lean ====
/-
# The claim

Each of the two preconditions says that every device holds one particular permutation of two places; the kernel's and the
reference's runs from such memories give every part of the claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_exchanges_Kernel
public import proofs.«01_k».proof.Proof.Gen.Pre_keeps_Kernel
public import proofs.«01_k».proof.Proof.Gen.Pre_exchanges_ReferenceIdeal
public import proofs.«01_k».proof.Proof.Gen.Pre_keeps_ReferenceIdeal
public import proofs.«01_k».proof.Proof.Values

@[expose] public section

noncomputable section

namespace Cert.Proof

open Idealize.ShloMosaic Idealize.SL.Sem
open Cert.Swap (entries_of_exchanges entries_of_keeps)

theorem rev_twice : ∀ k : Fin 2, Fin.rev (Fin.rev k) = k := Fin.rev_rev
theorem id_twice : ∀ k : Fin 2, id (id k) = k := fun _ => rfl

/-! ## The frames -/

/-- The two programs have the same text, so the same bodies -/
theorem same_bodies : Cert.Kernel.defs₀ (F := Bits) = Cert.KernelIdeal.defs₀ (F := Bits) :=
  congrArg Defs.onTc (funext fun l => funext fun a => by
    match l, a with
    | 0, (t, s) => rfl)

/-- and the same table of them. -/
theorem same_table : Cert.Kernel.defs (F := Bits) = Cert.KernelIdeal.defs (F := Bits) :=
  congrArg (Pipeline.defs Cert.KernelIdeal.pcfgs) same_bodies

/-- A run of the one is a run of the other. -/
theorem same_run (s : MemSt Cert.Kernel.nD Cert.Kernel.τ Cert.Kernel.sig (Elt Bits))
    (Q : PUnit × MemSt Cert.Kernel.nD Cert.Kernel.τ Cert.Kernel.sig (Elt Bits) → Prop)
    (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  rw [same_table]
  exact h

theorem frame_kernel : Cert.quiescent_Kernel := fun m ρ h =>
  same_run _ _ (Cert.Swap.frame_perm (F := Bits) m ρ Fin.rev rev_twice fun c => entries_of_exchanges (F := Bits) (h c))

theorem frame_kernel_keeps : Cert.quiescent_Kernel_pre_keeps_Kernel := fun m ρ h =>
  same_run _ _ (Cert.Swap.frame_perm (F := Bits) m ρ id id_twice fun c => entries_of_keeps (F := Bits) (h c))

theorem frame_ideal : Cert.quiescent_KernelIdeal := fun m ρ h =>
  Cert.Swap.frame_perm (F := Ideal) m ρ Fin.rev rev_twice fun c => entries_of_exchanges (F := Ideal) (h c)

theorem frame_ideal_keeps : Cert.quiescent_KernelIdeal_pre_keeps_Kernel := fun m ρ h =>
  Cert.Swap.frame_perm (F := Ideal) m ρ id id_twice fun c => entries_of_keeps (F := Ideal) (h c)

theorem frame_ref (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h.1 c).2, h.2⟩) (Cert.Ref.run_ref (F := Ideal) m ρ)

/-! ## The values -/

/-- Kernel and reference from memories that hold the same permutation and the same array, whole and in blocks. -/
theorem same_values (σ : Fin 2 → Fin 2) (hσ : ∀ k, σ (σ k) = k)
    (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (hp : ∀ c : Dev Cert.KernelIdeal.nD,
      m ((c.tc : Thread Cert.KernelIdeal.nD Cert.KernelIdeal.τ).loc Cert.KernelIdeal.main_arg1) = Cert.Ref.entries σ)
    (hm : ∀ c : Dev Cert.KernelIdeal.nD,
      m ((c.tc : Thread Cert.KernelIdeal.nD Cert.KernelIdeal.τ).loc Cert.KernelIdeal.main_arg0)
          = Layout.blockN ⟨3, ![1, 512, 512]⟩ ⟨3, ![2, 512, 512]⟩ (Layout.meshBlock [2, 2, 2] ![[1], [], []] c)
              (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1)
          = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 2, 2] ![[1], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  have hp' : m' (((0 : Dev Cert.ReferenceIdeal.nD).tc : Thread Cert.ReferenceIdeal.nD Cert.ReferenceIdeal.τ).loc Cert.ReferenceIdeal.main_arg1)
      = Cert.Ref.entries σ := (hm 0).2.symm.trans (hp 0)
  refine ⟨Cert.Ref.slabs σ (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨?_, (h.1 c).2⟩) (Cert.Swap.run_perm (F := Ideal) m g σ hσ hp)
    refine (h.1 c).1.trans ((Cert.Swap.outF_ideal m (Cert.Swap.meet σ hσ) c).trans ?_)
    exact (hm (Cert.Swap.partner σ c)).1.trans (Cert.Swap.block_slabs σ c _)
  · refine (θ_run Cert.ReferenceIdeal.defs _ _).mono (fun r h => ⟨?_, (h.1 0).2⟩) (Cert.Ref.run_ref (F := Ideal) m' g')
    refine (h.1 0).1.trans ?_
    rw [hp']
    exact Cert.Ref.gathered_entries σ hσ _

theorem values : Cert.algebraic_KernelIdeal_ReferenceIdeal := fun m g m' g' h hm =>
  same_values Fin.rev rev_twice m g m' g' (fun c => entries_of_exchanges (F := Ideal) (h c)) hm

theorem values_keeps : Cert.algebraic_KernelIdeal_ReferenceIdeal_pre_keeps_Kernel := fun m g m' g' h hm =>
  same_values id id_twice m g m' g' (fun c => entries_of_keeps (F := Ideal) (h c)) hm

theorem claim : Cert.Claim :=
  ⟨Cert.Kernel.Gen.facts, Cert.KernelIdeal.Gen.facts, Cert.ReferenceIdeal.Gen.facts, Cert.Pre_exchanges_Kernel.Gen.facts,
    Cert.Pre_keeps_Kernel.Gen.facts, Cert.Pre_exchanges_ReferenceIdeal.Gen.facts, Cert.Pre_keeps_ReferenceIdeal.Gen.facts,
    frame_kernel, frame_kernel_keeps, frame_ideal, frame_ideal_keeps, fun m g _ => frame_ref m g, fun m g _ => frame_ref m g,
    fun m g _ => frame_ref m g, trivial, values, values_keeps⟩

end Cert.Proof

end
